-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "sm_scale_over_cap" .f32 0x3AE7B46A#32 (((Real.sqrt 128)⁻¹ * (1 / 50) : ℝ) : EReal)
  ∧ IdealRules.named_const.Statement Cert.KernelIdeal.κ "neg_inf" .f32 0xF149F2CA#32 ⊥
  ∧ IdealRules.named_const.Statement Cert.KernelIdeal.κ "cap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x2048 : Shape := ⟨3, ![4, 16384, 2048]⟩
abbrev S4x128x1x2048 : Shape := ⟨4, ![4, 128, 1, 2048]⟩
abbrev S4x16384x256 : Shape := ⟨3, ![4, 16384, 256]⟩
abbrev S4x128x2 : Shape := ⟨3, ![4, 128, 2]⟩
abbrev S4x128x2x128x128 : Shape := ⟨5, ![4, 128, 2, 128, 128]⟩
abbrev S1x128x1024 : Shape := ⟨3, ![1, 128, 1024]⟩
abbrev S1x1x1x1024 : Shape := ⟨4, ![1, 1, 1, 1024]⟩
abbrev S1x16384x128 : Shape := ⟨3, ![1, 16384, 128]⟩
abbrev S1x128x1x128x128 : Shape := ⟨5, ![1, 128, 1, 128, 128]⟩
abbrev S1x1024 : Shape := ⟨2, ![1, 1024]⟩
abbrev S8x1024 : Shape := ⟨2, ![8, 1024]⟩
abbrev S128x1024 : Shape := ⟨2, ![128, 1024]⟩
abbrev S1x128x128 : Shape := ⟨3, ![1, 128, 128]⟩
abbrev S128x128 : Shape := ⟨2, ![128, 128]⟩
abbrev S1024x128 : Shape := ⟨2, ![1024, 128]⟩
abbrev S1x1x1 : Shape := ⟨3, ![1, 1, 1]⟩
abbrev S1024 : Shape := ⟨1, ![1024]⟩
abbrev S16x8x1024 : Shape := ⟨3, ![16, 8, 1024]⟩
abbrev S1x1x1x128x128 : Shape := ⟨5, ![1, 1, 1, 128, 128]⟩

abbrev nBuf : Space → Nat
  | .hbm => 7
  | .vmem => 13
  | .smem => 2
  | _ => 0

abbrev bufTy : (tb : Table) → Fin (tcTables nBuf tb) → BufTy
  | .hbm, ⟨0, _⟩ => ⟨S4x16384x2048, .fp8e4m3⟩
  | .hbm, ⟨1, _⟩ => ⟨S4x128x1x2048, .f32⟩
  | .hbm, ⟨2, _⟩ => ⟨S4x16384x256, .fp8e4m3⟩
  | .hbm, ⟨3, _⟩ => ⟨S4x128x2, .f32⟩
  | .hbm, ⟨4, _⟩ => ⟨S4x128x2x128x128, .fp8e4m3⟩
  | .hbm, ⟨5, _⟩ => ⟨S4x128x2, .f32⟩
  | .hbm, ⟨6, _⟩ => ⟨S4x16384x2048, .bf16⟩
  | .local _ .vmem, ⟨0, _⟩ => ⟨S1x128x1024, .fp8e4m3⟩
  | .local _ .vmem, ⟨1, _⟩ => ⟨S1x128x1024, .fp8e4m3⟩
  | .local _ .vmem, ⟨2, _⟩ => ⟨S1x1x1x1024, .f32⟩
  | .local _ .vmem, ⟨3, _⟩ => ⟨S1x1x1x1024, .f32⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x128x1x128x128, .fp8e4m3⟩
  | .local _ .vmem, ⟨7, _⟩ => ⟨S1x128x1x128x128, .fp8e4m3⟩
  | .local _ .vmem, ⟨8, _⟩ => ⟨S1x128x1024, .bf16⟩
  | .local _ .vmem, ⟨9, _⟩ => ⟨S1x128x1024, .bf16⟩
  | .local _ .vmem, ⟨10, _⟩ => ⟨S1x1024, .f32⟩
  | .local _ .vmem, ⟨11, _⟩ => ⟨S8x1024, .f32⟩
  | .local _ .vmem, ⟨12, _⟩ => ⟨S128x1024, .f32⟩
  | .local _ .smem, ⟨0, _⟩ => ⟨S4x128x2, .f32⟩
  | .local _ .smem, ⟨1, _⟩ => ⟨S4x128x2, .f32⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 128], ![false, false, false]⟩

@[reducible] def k0_t1_loop (i : grid0.Coords) : Scf.Loop 32 :=
  let c0_i32_29 : BitVec 32 := 0#32
  let arg2 : BitVec 32 := BitVec.ofNat 32 (i 2).val
  let v33 : BitVec 32 := Scalar.subi arg2 c0_i32_29
  let c1_i32 : BitVec 32 := 1#32
  let v35 : BitVec 32 := Scalar.divsi v33 c1_i32
  let v36 : BitVec 32 := Scalar.muli v35 c1_i32
  let v37 : BitVec 32 := Scalar.addi c0_i32_29 v36
  let c1_i32_30 : BitVec 32 := 1#32
  ⟨c0_i32_29, v37, c1_i32_30⟩
def k0_mult1 (i : grid0.Coords) (k0_t1 : Fin (k0_t1_loop i).trips) : BitVec 32 :=
  let c0_i32_29 : BitVec 32 := 0#32
  let c1_i32_30 : BitVec 32 := 1#32
  let arg13 : BitVec 32 := Scf.iv c0_i32_29 c1_i32_30 k0_t1
  let c128_i32_95 : BitVec 32 := 128#32
  let v176 : BitVec 32 := Scalar.muli arg13 c128_i32_95
  v176
def k0_off1 (i : grid0.Coords) (k0_t1 : Fin (k0_t1_loop i).trips) : Fin 3 → Nat :=
  let c0_96 : Index := 0#32
  let c0_i32_29 : BitVec 32 := 0#32
  let c1_i32_30 : BitVec 32 := 1#32
  let arg13 : BitVec 32 := Scf.iv c0_i32_29 c1_i32_30 k0_t1
  let c128_i32_95 : BitVec 32 := 128#32
  let v176 : BitVec 32 := Scalar.muli arg13 c128_i32_95
  let v177 : BitVec 32 := v176
  let v178 : Index := Scalar.indexCast v177
  let c0_97 : Index := 0#32
  ![0, v178.toNat, 0]
def k0_off2 (i : grid0.Coords) (k0_t1 : Fin (k0_t1_loop i).trips) : Fin 3 → Nat :=
  let arg0 : BitVec 32 := BitVec.ofNat 32 (i 0).val
  let v182 : Index := Scalar.indexCast arg0
  let c0_i32_29 : BitVec 32 := 0#32
  let c1_i32_30 : BitVec 32 := 1#32
  let arg13 : BitVec 32 := Scf.iv c0_i32_29 c1_i32_30 k0_t1
  let v183 : Index := Scalar.indexCast arg13
  let arg1 : BitVec 32 := BitVec.ofNat 32 (i 1).val
  let v184 : Index := Scalar.indexCast arg1
  ![v182.toNat, v183.toNat, v184.toNat]
def k0_off3 (i : grid0.Coords) (k0_t1 : Fin (k0_t1_loop i).trips) : Fin 5 → Nat :=
  let c0_114 : Index := 0#32
  let c0_i32_29 : BitVec 32 := 0#32
  let c1_i32_30 : BitVec 32 := 1#32
  let arg13 : BitVec 32 := Scf.iv c0_i32_29 c1_i32_30 k0_t1
  let v222 : Index := Scalar.indexCast arg13
  let c0_115 : Index := 0#32
  let c0_116 : Index := 0#32
  let c0_117 : Index := 0#32
  ![0, v222.toNat, 0, 0, 0]
@[reducible] def k0_t2_loop (i : grid0.Coords) : Scf.Loop 32 :=
  let c0_i32_29 : BitVec 32 := 0#32
  let arg2 : BitVec 32 := BitVec.ofNat 32 (i 2).val
  let v33 : BitVec 32 := Scalar.subi arg2 c0_i32_29
  let c1_i32 : BitVec 32 := 1#32
  let v35 : BitVec 32 := Scalar.divsi v33 c1_i32
  let v36 : BitVec 32 := Scalar.muli v35 c1_i32
  let v37 : BitVec 32 := Scalar.addi c0_i32_29 v36
  let v34 : BitVec 32 := Scalar.addi c0_i32_29 v33
  let c1_i32_31 : BitVec 32 := 1#32
  ⟨v37, v34, c1_i32_31⟩
def k0_mult2 (i : grid0.Coords) (k0_t2 : Fin (k0_t2_loop i).trips) : BitVec 32 :=
  let c0_i32_29 : BitVec 32 := 0#32
  let arg2 : BitVec 32 := BitVec.ofNat 32 (i 2).val
  let v33 : BitVec 32 := Scalar.subi arg2 c0_i32_29
  let c1_i32 : BitVec 32 := 1#32
  let v35 : BitVec 32 := Scalar.divsi v33 c1_i32
  let v36 : BitVec 32 := Scalar.muli v35 c1_i32
  let v37 : BitVec 32 := Scalar.addi c0_i32_29 v36
  let c1_i32_31 : BitVec 32 := 1#32
  let arg13 : BitVec 32 := Scf.iv v37 c1_i32_31 k0_t2
  let c128_i32_95 : BitVec 32 := 128#32
  let v176 : BitVec 32 := Scalar.muli arg13 c128_i32_95
  v176
def k0_off4 (i : grid0.Coords) (k0_t2 : Fin (k0_t2_loop i).trips) : Fin 3 → Nat :=
  let c0_96 : Index := 0#32
  let c0_i32_29 : BitVec 32 := 0#32
  let arg2 : BitVec 32 := BitVec.ofNat 32 (i 2).val
  let v33 : BitVec 32 := Scalar.subi arg2 c0_i32_29
  let c1_i32 : BitVec 32 := 1#32
  let v35 : BitVec 32 := Scalar.divsi v33 c1_i32
  let v36 : BitVec 32 := Scalar.muli v35 c1_i32
  let v37 : BitVec 32 := Scalar.addi c0_i32_29 v36
  let c1_i32_31 : BitVec 32 := 1#32
  let arg13 : BitVec 32 := Scf.iv v37 c1_i32_31 k0_t2
  let c128_i32_95 : BitVec 32 := 128#32
  let v176 : BitVec 32 := Scalar.muli arg13 c128_i32_95
  let v177 : BitVec 32 := v176
  let v178 : Index := Scalar.indexCast v177
  let c0_97 : Index := 0#32
  ![0, v178.toNat, 0]
def k0_off5 (i : grid0.Coords) (k0_t2 : Fin (k0_t2_loop i).trips) : Fin 3 → Nat :=
  let arg0 : BitVec 32 := BitVec.ofNat 32 (i 0).val
  let v182 : Index := Scalar.indexCast arg0
  let c0_i32_29 : BitVec 32 := 0#32
  let arg2 : BitVec 32 := BitVec.ofNat 32 (i 2).val
  let v33 : BitVec 32 := Scalar.subi arg2 c0_i32_29
  let c1_i32 : BitVec 32 := 1#32
  let v35 : BitVec 32 := Scalar.divsi v33 c1_i32
  let v36 : BitVec 32 := Scalar.muli v35 c1_i32
  let v37 : BitVec 32 := Scalar.addi c0_i32_29 v36
  let c1_i32_31 : BitVec 32 := 1#32
  let arg13 : BitVec 32 := Scf.iv v37 c1_i32_31 k0_t2
  let v183 : Index := Scalar.indexCast arg13
  let arg1 : BitVec 32 := BitVec.ofNat 32 (i 1).val
  let v184 : Index := Scalar.indexCast arg1
  ![v182.toNat, v183.toNat, v184.toNat]
def k0_off6 (i : grid0.Coords) (k0_t2 : Fin (k0_t2_loop i).trips) : Fin 5 → Nat :=
  let c0_114 : Index := 0#32
  let c0_i32_29 : BitVec 32 := 0#32
  let arg2 : BitVec 32 := BitVec.ofNat 32 (i 2).val
  let v33 : BitVec 32 := Scalar.subi arg2 c0_i32_29
  let c1_i32 : BitVec 32 := 1#32
  let v35 : BitVec 32 := Scalar.divsi v33 c1_i32
  let v36 : BitVec 32 := Scalar.muli v35 c1_i32
  let v37 : BitVec 32 := Scalar.addi c0_i32_29 v36
  let c1_i32_31 : BitVec 32 := 1#32
  let arg13 : BitVec 32 := Scf.iv v37 c1_i32_31 k0_t2
  let v222 : Index := Scalar.indexCast arg13
  let c0_115 : Index := 0#32
  let c0_116 : Index := 0#32
  let c0_117 : Index := 0#32
  ![0, v222.toNat, 0, 0, 0]
def k0_mult3 (i : grid0.Coords) : BitVec 32 :=
  let arg2 : BitVec 32 := BitVec.ofNat 32 (i 2).val
  let c128_i32 : BitVec 32 := 128#32
  let v38 : BitVec 32 := Scalar.muli arg2 c128_i32
  v38
def k0_off7 (i : grid0.Coords) : Fin 3 → Nat :=
  let c0_32 : Index := 0#32
  let arg2 : BitVec 32 := BitVec.ofNat 32 (i 2).val
  let c128_i32 : BitVec 32 := 128#32
  let v38 : BitVec 32 := Scalar.muli arg2 c128_i32
  let v39 : BitVec 32 := v38
  let v40 : Index := Scalar.indexCast v39
  let c0_33 : Index := 0#32
  ![0, v40.toNat, 0]
def k0_off8 (i : grid0.Coords) : Fin 3 → Nat :=
  let arg0 : BitVec 32 := BitVec.ofNat 32 (i 0).val
  let v44 : Index := Scalar.indexCast arg0
  let arg2 : BitVec 32 := BitVec.ofNat 32 (i 2).val
  let v45 : Index := Scalar.indexCast arg2
  let arg1 : BitVec 32 := BitVec.ofNat 32 (i 1).val
  let v46 : Index := Scalar.indexCast arg1
  ![v44.toNat, v45.toNat, v46.toNat]
def k0_off9 (i : grid0.Coords) : Fin 5 → Nat :=
  let c0_57 : Index := 0#32
  let arg2 : BitVec 32 := BitVec.ofNat 32 (i 2).val
  let v105 : Index := Scalar.indexCast arg2
  let c0_58 : Index := 0#32
  let c0_59 : Index := 0#32
  let c0_60 : Index := 0#32
  ![0, v105.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4x128x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4x128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16384x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x1x128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "cap_log2e" => some ((50 * (Real.log 2)⁻¹ : ℝ) : EReal)
  | "neg_inf" => some ⊥
  | "sm_scale_over_cap" => some (((Real.sqrt 128)⁻¹ * (1 / 50) : ℝ) : EReal)
  | _ => none
-- ==== ReferenceIdeal.lean ====
abbrev S4x16384x2048 : Shape := ⟨3, ![4, 16384, 2048]⟩
abbrev S4x128x1x2048 : Shape := ⟨4, ![4, 128, 1, 2048]⟩
abbrev S4x16384x256 : Shape := ⟨3, ![4, 16384, 256]⟩
abbrev S4x128x2 : Shape := ⟨3, ![4, 128, 2]⟩
abbrev S4x128x2x128x128 : Shape := ⟨5, ![4, 128, 2, 128, 128]⟩
abbrev S4x128x128x2x8x128 : Shape := ⟨6, ![4, 128, 128, 2, 8, 128]⟩
abbrev S4x128x128x2x128 : Shape := ⟨5, ![4, 128, 128, 2, 128]⟩
abbrev S4x128x2x8x128 : Shape := ⟨5, ![4, 128, 2, 8, 128]⟩
abbrev S4x2x128x128x8 : Shape := ⟨5, ![4, 2, 128, 128, 8]⟩
abbrev S4x2x128 : Shape := ⟨3, ![4, 2, 128]⟩
abbrev S4x2x128x128x8x128x128 : Shape := ⟨7, ![4, 2, 128, 128, 8, 128, 128]⟩
abbrev S4x2x128x128x8x1 : Shape := ⟨6, ![4, 2, 128, 128, 8, 1]⟩
abbrev S4x2x1x1x1x128 : Shape := ⟨6, ![4, 2, 1, 1, 1, 128]⟩
abbrev S4x2x128x128x8x128 : Shape := ⟨6, ![4, 2, 128, 128, 8, 128]⟩
abbrev S_ : Shape := ⟨0, ![]⟩
abbrev S4x2x128x128x8x128x1 : Shape := ⟨7, ![4, 2, 128, 128, 8, 128, 1]⟩
abbrev S16384 : Shape := ⟨1, ![16384]⟩
abbrev S128x128 : Shape := ⟨2, ![128, 128]⟩
abbrev S1x1x1x128x128 : Shape := ⟨5, ![1, 1, 1, 128, 128]⟩
abbrev S128x128x1x1x1 : Shape := ⟨5, ![128, 128, 1, 1, 1]⟩
abbrev S128x128x1x128x128 : Shape := ⟨5, ![128, 128, 1, 128, 128]⟩
abbrev S4x2x128x128x8x1x1 : Shape := ⟨7, ![4, 2, 128, 128, 8, 1, 1]⟩
abbrev S4x2x128x128x128x8x128 : Shape := ⟨7, ![4, 2, 128, 128, 128, 8, 128]⟩
abbrev S4x2x128x1x1x1x1 : Shape := ⟨7, ![4, 2, 128, 1, 1, 1, 1]⟩

abbrev nBuf : Space → Nat
  | .hbm => 81
  | .vmem => 6
  | .smem => 0
  | _ => 0

abbrev bufTy : (tb : Table) → Fin (tcTables nBuf tb) → BufTy
  | .hbm, ⟨0, _⟩ => ⟨S4x16384x2048, .fp8e4m3⟩
  | .hbm, ⟨1, _⟩ => ⟨S4x128x1x2048, .f32⟩
  | .hbm, ⟨2, _⟩ => ⟨S4x16384x256, .fp8e4m3⟩
  | .hbm, ⟨3, _⟩ => ⟨S4x128x2, .f32⟩
  | .hbm, ⟨4, _⟩ => ⟨S4x128x2x128x128, .fp8e4m3⟩
  | .hbm, ⟨5, _⟩ => ⟨S4x128x2, .f32⟩
  | .hbm, ⟨6, _⟩ => ⟨S4x16384x2048, .f32⟩
  | .hbm, ⟨7, _⟩ => ⟨S4x16384x256, .f32⟩
  | .hbm, ⟨8, _⟩ => ⟨S4x128x2x128x128, .f32⟩
  | .hbm, ⟨9, _⟩ => ⟨S4x128x128x2x8x128, .f32⟩
  | .hbm, ⟨10, _⟩ => ⟨S4x128x128x2x128, .f32⟩
  | .hbm, ⟨11, _⟩ => ⟨S4x128x2x8x128, .f32⟩
  | .hbm, ⟨12, _⟩ => ⟨S4x2x128x128x8, .f32⟩
  | .hbm, ⟨13, _⟩ => ⟨S4x2x128, .f32⟩
  | .hbm, ⟨14, _⟩ => ⟨S4x2x128, .f32⟩
  | .hbm, ⟨15, _⟩ => ⟨S4x2x128x128x8x128x128, .f32⟩
  | .hbm, ⟨16, _⟩ => ⟨S4x2x128x128x8x1, .f32⟩
  | .hbm, ⟨17, _⟩ => ⟨S4x2x1x1x1x128, .f32⟩
  | .hbm, ⟨18, _⟩ => ⟨S4x2x128x128x8x128, .f32⟩
  | .hbm, ⟨19, _⟩ => ⟨S4x2x128x128x8x128, .f32⟩
  | .hbm, ⟨20, _⟩ => ⟨S4x2x128x128x8x128, .f32⟩
  | .hbm, ⟨21, _⟩ => ⟨S_, .f32⟩
  | .hbm, ⟨22, _⟩ => ⟨S_, .f32⟩
  | .hbm, ⟨23, _⟩ => ⟨S4x2x128x128x8x128, .f32⟩
  | .hbm, ⟨24, _⟩ => ⟨S4x2x128x128x8x128, .f32⟩
  | .hbm, ⟨25, _⟩ => ⟨S4x2x128x128x8x128x1, .f32⟩
  | .hbm, ⟨26, _⟩ => ⟨S4x2x128x128x8x128x128, .f32⟩
  | .hbm, ⟨27, _⟩ => ⟨S4x2x128x128x8x128x128, .f32⟩
  | .hbm, ⟨28, _⟩ => ⟨S_, .f32⟩
  | .hbm, ⟨29, _⟩ => ⟨S4x2x128x128x8x128x128, .f32⟩
  | .hbm, ⟨30, _⟩ => ⟨S4x2x128x128x8x128x128, .f32⟩
  | .hbm, ⟨31, _⟩ => ⟨S4x2x128x128x8x128x128, .f32⟩
  | .hbm, ⟨32, _⟩ => ⟨S_, .f32⟩
  | .hbm, ⟨33, _⟩ => ⟨S4x2x128x128x8x128x128, .f32⟩
  | .hbm, ⟨34, _⟩ => ⟨S4x2x128x128x8x128x128, .f32⟩
  | .hbm, ⟨35, _⟩ => ⟨S16384, .i32⟩
  | .hbm, ⟨36, _⟩ => ⟨S128x128, .i32⟩
  | .hbm, ⟨37, _⟩ => ⟨S1x1x1x128x128, .i32⟩
  | .hbm, ⟨38, _⟩ => ⟨S128x128x1x1x1, .i32⟩
  | .hbm, ⟨39, _⟩ => ⟨S128x128x1x128x128, .i32⟩
  | .hbm, ⟨40, _⟩ => ⟨S128x128x1x128x128, .i32⟩
  | .hbm, ⟨41, _⟩ => ⟨S128x128x1x128x128, .i1⟩
  | .hbm, ⟨42, _⟩ => ⟨S_, .f32⟩
  | .hbm, ⟨43, _⟩ => ⟨S_, .f32⟩
  | .hbm, ⟨44, _⟩ => ⟨S4x2x128x128x8x128x128, .i1⟩
  | .hbm, ⟨45, _⟩ => ⟨S4x2x128x128x8x128x128, .f32⟩
  | .hbm, ⟨46, _⟩ => ⟨S4x2x128x128x8x128x128, .f32⟩
  | .hbm, ⟨47, _⟩ => ⟨S_, .f32⟩
  | .hbm, ⟨48, _⟩ => ⟨S4x2x128x128x8, .f32⟩
  | .hbm, ⟨49, _⟩ => ⟨S4x2x128x128x8x1x1, .f32⟩
  | .hbm, ⟨50, _⟩ => ⟨S4x2x128x128x8x128x128, .f32⟩
  | .hbm, ⟨51, _⟩ => ⟨S4x2x128x128x8x128x128, .f32⟩
  | .hbm, ⟨52, _⟩ => ⟨S4x2x128x128x8x128x128, .f32⟩
  | .hbm, ⟨53, _⟩ => ⟨S_, .f32⟩
  | .hbm, ⟨54, _⟩ => ⟨S4x2x128x128x8, .f32⟩
  | .hbm, ⟨55, _⟩ => ⟨S_, .f32⟩
  | .hbm, ⟨56, _⟩ => ⟨S4x2x128x128x8x128x128, .f32⟩
  | .hbm, ⟨57, _⟩ => ⟨S4x2x128x128x8x128x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x2x128x128x8x128x128, .f32⟩
  | .hbm, ⟨62, _⟩ => ⟨S4x2x128x128x8x128x128, .f32⟩
  | .hbm, ⟨63, _⟩ => ⟨S_, .f32⟩
  | .hbm, ⟨64, _⟩ => ⟨S4x2x128x128x8x128x128, .f32⟩
  | .hbm, ⟨65, _⟩ => ⟨S4x2x128x128x8x128x128, .f32⟩
  | .hbm, ⟨66, _⟩ => ⟨S4x2x128x128x128x8x128, .f32⟩
  | .hbm, ⟨67, _⟩ => ⟨S_, .f32⟩
  | .hbm, ⟨68, _⟩ => ⟨S4x2x128, .f32⟩
  | .hbm, ⟨69, _⟩ => ⟨S4x2x128, .f32⟩
  | .hbm, ⟨70, _⟩ => ⟨S4x2x128x1x1x1x1, .f32⟩
  | .hbm, ⟨71, _⟩ => ⟨S4x2x128x128x128x8x128, .f32⟩
  | .hbm, ⟨72, _⟩ => ⟨S4x2x128x128x128x8x128, .f32⟩
  | .hbm, ⟨73, _⟩ => ⟨S_, .f32⟩
  | .hbm, ⟨74, _⟩ => ⟨S4x2x128x128x8x128, .f32⟩
  | .hbm, ⟨75, _⟩ => ⟨S4x2x128x128x8x1, .f32⟩
  | .hbm, ⟨76, _⟩ => ⟨S4x2x128x128x8x128, .f32⟩
  | .hbm, ⟨77, _⟩ => ⟨S4x2x128x128x8x128, .f32⟩
  | .hbm, ⟨78, _⟩ => ⟨S4x128x128x2x8x128, .f32⟩
  | .hbm, ⟨79, _⟩ => ⟨S4x16384x2048, .f32⟩
  | .hbm, ⟨80, _⟩ => ⟨S4x16384x2048, .bf16⟩
  | .local _ .vmem, ⟨0, _⟩ => ⟨S4x16384x2048, .fp8e4m3⟩
  | .local _ .vmem, ⟨1, _⟩ => ⟨S4x16384x256, .fp8e4m3⟩
  | .local _ .vmem, ⟨2, _⟩ => ⟨S4x128x2x128x128, .fp8e4m3⟩
  | .local _ .vmem, ⟨3, _⟩ => ⟨S4x16384x2048, .f32⟩
  | .local _ .vmem, ⟨4, _⟩ => ⟨S4x16384x256, .f32⟩
  | .local _ .vmem, ⟨5, _⟩ => ⟨S4x128x2x128x128, .f32⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x16384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x2x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16384x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  The kernel's run at one grid point, read as values.  The generated run leaves lists of stores; every store to the
  three scratch buffers covers its buffer, so what a buffer holds is the payload of the last store.  `stateAt` is the
  triple (running maximum, running denominator, running numerator) after `k` key blocks, `finalL` and `finalA` add the
  diagonal block, and `run_pieces` reads the point's output block from them.
-/
module

public import proofs.«01_k».proof.Proof.Gen.KernelIdeal.Value
public import Idealize.ShloMosaic.Lib.VecWindow
public import Idealize.ShloMosaic.Lib.WholeRead
public import Idealize.ShloMosaic.Lib.Pointwise

@[expose] public section
noncomputable section

namespace Cert.KernelIdeal.Run
open Cert.KernelIdeal Cert.KernelIdeal.Gen
open Idealize.ShloMosaic Idealize.ShloMosaic.TcCoe

variable {F : FTy → Type} [FloatOps F] [Named F]

/-- The three scratch buffers' contents: maximum (1×1024), denominator (8×1024), numerator (128×1024). -/
abbrev State (F : FTy → Type) : Type := Vec F S1x1024 .f32 × Vec F S8x1024 .f32 × Vec F S128x1024 .f32

section
variable (i : grid0.Coords)
variable (v16 : FVec F S1024x128 .fp8e4m3) (v20 : FVec F S1x1024 .f32)
variable (x0 x1 : Vec F S4x128x2 .f32) (x4 : Vec F S1x16384x128 .fp8e4m3) (x5 : Vec F S1x128x1x128x128 .fp8e4m3)

/-- Key block `k` below the diagonal. -/
def keyBlk (k : Fin (k0_t1_loop i).trips) : Vec F S1x128x128 .fp8e4m3 :=
  View.ld x4 (Rect.unit (k0_off1 i k) S1x128x128.size (k0_off1_inb i k))
/-- Value block `k` below the diagonal. -/
def valBlk (k : Fin (k0_t1_loop i).trips) : Vec F S1x1x1x128x128 .fp8e4m3 :=
  View.ld x5 (Rect.unit (k0_off3 i k) S1x1x1x128x128.size (k0_off3_inb i k))
/-- The scale (of keys or of values) of block `k` below the diagonal. -/
def sclBlk (x : Vec F S4x128x2 .f32) (k : Fin (k0_t1_loop i).trips) : Elt F .f32 :=
  View.ld x (Rect.unit (k0_off2 i k) S1x1x1.size (k0_off2_inb i k)) (Shape.Idx.first (lt_of_lt_of_eq Nat.one_pos numel1_S1x1x1.symm))

/-- One key block's step on the state. -/
def stepAt (k : Fin (k0_t1_loop i).trips) (s : State F) : State F :=
  (k0_pay4 v16 v20 (keyBlk i x4 k) (sclBlk i x0 k) s.1,
   k0_pay8 v16 v20 (keyBlk i x4 k) (sclBlk i x0 k) s.1 s.2.1,
   k0_pay21 (k0_pay6 v16 v20 (keyBlk i x4 k) (sclBlk i x0 k) s.1) (k0_pay7 v16 v20 (keyBlk i x4 k) (sclBlk i x0 k) s.1)
     (valBlk i x5 k) s.2.2 (sclBlk i x1 k))

/-- The state after the first `k` key blocks. -/
def stateAt : ℕ → State F
  | 0 => (k0_pay18, k0_pay19, k0_pay20)
  | k + 1 => if h : k < (k0_t1_loop i).trips then stepAt i v16 v20 x0 x1 x4 x5 ⟨k, h⟩ (stateAt k) else stateAt k

/-- The diagonal block's scores (before the mask). -/
def diagT : FVec F S128x1024 .f32 :=
  k0_pay23 v16 v20 (View.ld x4 (Rect.unit (k0_off7 i) S1x128x128.size (k0_off7_inb i)))
    (View.ld x0 (Rect.unit (k0_off8 i) S1x1x1.size (k0_off8_inb i)) (Shape.Idx.first (lt_of_lt_of_eq Nat.one_pos numel1_S1x1x1.symm)))

/-- The denominator after the diagonal block. -/
def finalL (s : State F) : Vec F S8x1024 .f32 :=
  k0_pay32 (diagT i v16 v20 x0 x4) (iota Kind.tc S128x1024 32 [0] iota_S128x1024_d0_w32) 128#32 k0_pay24 k0_pay25 s.1 s.2.1

/-- The numerator after the diagonal block. -/
def finalA (s : State F) : Vec F S128x1024 .f32 :=
  k0_pay34 (k0_pay30 (diagT i v16 v20 x0 x4) (iota Kind.tc S128x1024 32 [0] iota_S128x1024_d0_w32) 128#32 k0_pay24 k0_pay25 s.1)
    (k0_pay31 (diagT i v16 v20 x0 x4) (iota Kind.tc S128x1024 32 [0] iota_S128x1024_d0_w32) 128#32 k0_pay24 k0_pay25 s.1)
    (FloatOps.ofBits FTy.f32 1138753536#32) k0_pay33
    (View.ld x5 (Rect.unit (k0_off9 i) S1x1x1x128x128.size (k0_off9_inb i))) s.2.2
    (View.ld x1 (Rect.unit (k0_off8 i) S1x1x1.size (k0_off8_inb i)) (Shape.Idx.first (lt_of_lt_of_eq Nat.one_pos numel1_S1x1x1.symm)))
end

section
variable (c : Dev nD) (i : grid0.Coords)
variable (arg3 : Memref sig .tc .smem S4x128x2 .f32) (harg3 : arg3.IsWhole)
variable (arg4 : Memref sig .tc .smem S4x128x2 .f32) (harg4 : arg4.IsWhole)
variable (arg5 : Memref sig .tc .vmem S1x128x1024 .fp8e4m3) (harg5 : arg5.IsWhole)
variable (arg6 : Memref sig .tc .vmem S1x1x1x1024 .f32) (harg6 : arg6.IsWhole)
variable (arg7 : Memref sig .tc .vmem S1x16384x128 .fp8e4m3) (harg7 : arg7.IsWhole)
variable (arg8 : Memref sig .tc .vmem S1x128x1x128x128 .fp8e4m3) (harg8 : arg8.IsWhole)
variable (arg9 : Memref sig .tc .vmem S1x128x1024 .bf16) (harg9 : arg9.IsWhole)
variable (arg10 : Memref sig .tc .vmem S1x1024 .f32) (harg10 : arg10.IsWhole)
variable (arg11 : Memref sig .tc .vmem S8x1024 .f32) (harg11 : arg11.IsWhole)
variable (arg12 : Memref sig .tc .vmem S128x1024 .f32) (harg12 : arg12.IsWhole)
variable (a0 a1 a2 : BitVec 32) (v16 : FVec F S1024x128 .fp8e4m3) (v20 : FVec F S1x1024 .f32) (v24 : FVec F S1x1024 .f32)
variable (x0 x1 : Vec F S4x128x2 .f32) (x4 : Vec F S1x16384x128 .fp8e4m3) (x5 : Vec F S1x128x1x128x128 .fp8e4m3)
variable (G10 : BufTy.Contents (Elt F) arg10.view.ty) (G11 : BufTy.Contents (Elt F) arg11.view.ty) (G12 : BufTy.Contents (Elt F) arg12.view.ty)

/-- One trip's stores: each scratch buffer is stored whole, with the step's value. -/
theorem trip_reads (k : Fin (k0_t1_loop i).trips) (f10 : BufTy.Contents (Elt F) arg10.view.ty) (f11 : BufTy.Contents (Elt F) arg11.view.ty)
    (f12 : BufTy.Contents (Elt F) arg12.view.ty) :
    tripL_k0_t1 (F := F) Variants.none c none i arg3 harg3 arg4 harg4 arg5 harg5 arg6 harg6 arg7 harg7 arg8 harg8 arg9 harg9 arg10 harg10 arg11 harg11 arg12 harg12 a0 a1 a2 v16 v20 v24 (harg3.unread x0) (harg4.unread x1) (harg7.unread x4) (harg8.unread x5) k f10 f11 f12
      = ([⟨Rect.unit ![0, 0] S1x1024.size inb_S1x1024_S1x1024_0_0,
            (stepAt i v16 v20 x0 x1 x4 x5 k (arg10.view.read (Elt F) f10, arg11.view.read (Elt F) f11, arg12.view.read (Elt F) f12)).1⟩],
         [⟨Rect.unit ![0, 0] S8x1024.size inb_S8x1024_S8x1024_0_0,
            (stepAt i v16 v20 x0 x1 x4 x5 k (arg10.view.read (Elt F) f10, arg11.view.read (Elt F) f11, arg12.view.read (Elt F) f12)).2.1⟩],
         [⟨Rect.unit ![0, 0] S128x1024.size inb_S128x1024_S128x1024_0_0,
            (stepAt i v16 v20 x0 x1 x4 x5 k (arg10.view.read (Elt F) f10, arg11.view.read (Elt F) f11, arg12.view.read (Elt F) f12)).2.2⟩]) := by
  unfold tripL_k0_t1
  unfold trip_k0_t1
  dsimp only
  unfold trip_k0_t1.sl.r_1 trip_k0_t1.sl.r_2 trip_k0_t1.sl.r_3 trip_k0_t1.sl.r_4 trip_k0_t1.sl.r
  unfold stepAt keyBlk valBlk sclBlk
  rw [View.readAt_full, View.readAt_full, View.readAt_full]
  simp only [View.readAt_eq_ld, Memref.IsWhole.read_unread]

/-- After `k` trips, over whatever stores came before, the scratch buffers hold `stateAt k`. -/
theorem loop_reads (h10 : arg10.view.read (Elt F) G10 = k0_pay18) (h11 : arg11.view.read (Elt F) G11 = k0_pay19)
    (h12 : arg12.view.read (Elt F) G12 = k0_pay20) :
    ∀ k, k ≤ (k0_t1_loop i).trips →
      (∀ f L, arg10.view.read (Elt F) (arg10.view.writes (Elt F) f L) = k0_pay18 → arg10.view.read (Elt F) (arg10.view.writes (Elt F) f
          ((pb_k0_t1 (F := F) Variants.none c none i arg3 harg3 arg4 harg4 arg5 harg5 arg6 harg6 arg7 harg7 arg8 harg8 arg9 harg9 arg10 harg10 arg11 harg11 arg12 harg12 a0 a1 a2 v16 v20 v24 (harg3.unread x0) (harg4.unread x1) (harg7.unread x4) (harg8.unread x5) G10 G11 G12 k).1 ++ L))
        = (stateAt i v16 v20 x0 x1 x4 x5 k).1)
      ∧ (∀ f L, arg11.view.read (Elt F) (arg11.view.writes (Elt F) f L) = k0_pay19 → arg11.view.read (Elt F) (arg11.view.writes (Elt F) f
          ((pb_k0_t1 (F := F) Variants.none c none i arg3 harg3 arg4 harg4 arg5 harg5 arg6 harg6 arg7 harg7 arg8 harg8 arg9 harg9 arg10 harg10 arg11 harg11 arg12 harg12 a0 a1 a2 v16 v20 v24 (harg3.unread x0) (harg4.unread x1) (harg7.unread x4) (harg8.unread x5) G10 G11 G12 k).2.1 ++ L))
        = (stateAt i v16 v20 x0 x1 x4 x5 k).2.1)
      ∧ (∀ f L, arg12.view.read (Elt F) (arg12.view.writes (Elt F) f L) = k0_pay20 → arg12.view.read (Elt F) (arg12.view.writes (Elt F) f
          ((pb_k0_t1 (F := F) Variants.none c none i arg3 harg3 arg4 harg4 arg5 harg5 arg6 harg6 arg7 harg7 arg8 harg8 arg9 harg9 arg10 harg10 arg11 harg11 arg12 harg12 a0 a1 a2 v16 v20 v24 (harg3.unread x0) (harg4.unread x1) (harg7.unread x4) (harg8.unread x5) G10 G11 G12 k).2.2 ++ L))
        = (stateAt i v16 v20 x0 x1 x4 x5 k).2.2)
  | 0, _ => ⟨fun f L h => h, fun f L h => h, fun f L h => h⟩
  | k + 1, hk => by
    have hk' : k < (k0_t1_loop i).trips := hk
    obtain ⟨i1, i2, i3⟩ := loop_reads h10 h11 h12 k hk'.le
    have e := pb_k0_t1_succ (F := F) Variants.none c none i arg3 harg3 arg4 harg4 arg5 harg5 arg6 harg6 arg7 harg7 arg8 harg8 arg9 harg9 arg10 harg10 arg11 harg11 arg12 harg12 a0 a1 a2 v16 v20 v24 (harg3.unread x0) (harg4.unread x1) (harg7.unread x4) (harg8.unread x5) G10 G11 G12 ⟨k, hk'⟩
    have j1 := i1 G10 [] h10
    have j2 := i2 G11 [] h11
    have j3 := i3 G12 [] h12
    rw [List.append_nil] at j1 j2 j3
    rw [trip_reads] at e
    dsimp only at e
    rw [j1, j2, j3] at e
    have es : stateAt i v16 v20 x0 x1 x4 x5 (k + 1) = stepAt i v16 v20 x0 x1 x4 x5 ⟨k, hk'⟩ (stateAt i v16 v20 x0 x1 x4 x5 k) := by
      rw [stateAt, dif_pos hk']
    rw [e, es]
    exact ⟨fun f L _ => View.read_writes_full _ _ _ _ _, fun f L _ => View.read_writes_full _ _ _ _ _, fun f L _ => View.read_writes_full _ _ _ _ _⟩
variable (x2 : Vec F S1x128x1024 .fp8e4m3) (x3 : Vec F S1x1x1x1024 .f32)

/-- The query block, one head per 128 columns, stacked: 1024 rows of 128 channels. -/
def q16 (x2 : Vec F S1x128x1024 .fp8e4m3) : FVec F S1024x128 .fp8e4m3 :=
  k0_pay16 (View.ld x2 (Rect.unit ![0, 0, 0] S1x128x128.size inb_S1x128x1024_S1x128x128_0_0_0))
    (View.ld x2 (Rect.unit ![0, 0, 128] S1x128x128.size inb_S1x128x1024_S1x128x128_0_0_128))
    (View.ld x2 (Rect.unit ![0, 0, 256] S1x128x128.size inb_S1x128x1024_S1x128x128_0_0_256))
    (View.ld x2 (Rect.unit ![0, 0, 384] S1x128x128.size inb_S1x128x1024_S1x128x128_0_0_384))
    (View.ld x2 (Rect.unit ![0, 0, 512] S1x128x128.size inb_S1x128x1024_S1x128x128_0_0_512))
    (View.ld x2 (Rect.unit ![0, 0, 640] S1x128x128.size inb_S1x128x1024_S1x128x128_0_0_640))
    (View.ld x2 (Rect.unit ![0, 0, 768] S1x128x128.size inb_S1x128x1024_S1x128x128_0_0_768))
    (View.ld x2 (Rect.unit ![0, 0, 896] S1x128x128.size inb_S1x128x1024_S1x128x128_0_0_896))

/-- The query scales of the block, times the named constant. -/
def qs (x3 : Vec F S1x1x1x1024 .f32) : FVec F S1x1024 .f32 := k0_pay17 x3

/-- The second counted loop (the remainder of an unrolled loop) has no trips. -/
theorem trips2 (i : grid0.Coords) : Scf.trips (k0_t2_loop i).lb (k0_t2_loop i).ub (k0_t2_loop i).st = 0 := by
  have h : ∀ n : Fin 128, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by decide +kernel
  exact h (i 2)

theorem r_eq : kernelRun0_A.sl.r c arg5 harg5 x2 = q16 x2 := by
  unfold kernelRun0_A.sl.r q16
  simp only [View.readAt_eq_ld, Memref.IsWhole.read_unread]

theorem r1_eq : kernelRun0_A.sl.r_1 c arg6 harg6 x3 = qs x3 := by
  unfold kernelRun0_A.sl.r_1 qs
  rw [View.readAt_full, Memref.IsWhole.read_unread]

/-- The state the diagonal block starts from: all key blocks below it done. -/
def lastState (i : grid0.Coords) (x0 x1 : Vec F S4x128x2 .f32) (x2 : Vec F S1x128x1024 .fp8e4m3) (x3 : Vec F S1x1x1x1024 .f32) (x4 : Vec F S1x16384x128 .fp8e4m3) (x5 : Vec F S1x128x1x128x128 .fp8e4m3) : State F :=
  stateAt i (q16 x2) (qs x3) x0 x1 x4 x5 (k0_t1_loop i).trips

theorem v74_eq : kernelRun0_A.sl.v74 c i arg3 harg3 arg4 harg4 arg5 harg5 arg6 harg6 arg7 harg7 arg8 harg8 arg9 harg9 arg10 harg10 arg11 harg11 arg12 harg12 x0 x1 x2 x3 x4 x5 = (lastState i x0 x1 x2 x3 x4 x5).1 := by
  unfold kernelRun0_A.sl.v74 View.readCov
  rw [trips2, r_eq, r1_eq, View.readAt_full]
  exact (loop_reads c i arg3 harg3 arg4 harg4 arg5 harg5 arg6 harg6 arg7 harg7 arg8 harg8 arg9 harg9 arg10 harg10 arg11 harg11 arg12 harg12 _ _ _ (q16 x2) (qs x3) _ x0 x1 x4 x5 _ _ _ (View.read_writes_full _ _ _ _ _)
    (View.read_writes_full _ _ _ _ _) (View.read_writes_full _ _ _ _ _) _ le_rfl).1 _ _ (View.read_writes_full _ _ _ _ _)

theorem v91_eq : kernelRun0_A.sl.v91 c i arg3 harg3 arg4 harg4 arg5 harg5 arg6 harg6 arg7 harg7 arg8 harg8 arg9 harg9 arg10 harg10 arg11 harg11 arg12 harg12 x0 x1 x2 x3 x4 x5 = (lastState i x0 x1 x2 x3 x4 x5).2.1 := by
  unfold kernelRun0_A.sl.v91 View.readCov
  rw [trips2, r_eq, r1_eq, View.readAt_full]
  exact (loop_reads c i arg3 harg3 arg4 harg4 arg5 harg5 arg6 harg6 arg7 harg7 arg8 harg8 arg9 harg9 arg10 harg10 arg11 harg11 arg12 harg12 _ _ _ (q16 x2) (qs x3) _ x0 x1 x4 x5 _ _ _ (View.read_writes_full _ _ _ _ _)
    (View.read_writes_full _ _ _ _ _) (View.read_writes_full _ _ _ _ _) _ le_rfl).2.1 _ _ (View.read_writes_full _ _ _ _ _)

theorem v109_eq : kernelRun0_A.sl.v109 c i arg3 harg3 arg4 harg4 arg5 harg5 arg6 harg6 arg7 harg7 arg8 harg8 arg9 harg9 arg10 harg10 arg11 harg11 arg12 harg12 x0 x1 x2 x3 x4 x5 = (lastState i x0 x1 x2 x3 x4 x5).2.2 := by
  unfold kernelRun0_A.sl.v109 View.readCov
  rw [trips2, r_eq, r1_eq, View.readAt_full]
  exact (loop_reads c i arg3 harg3 arg4 harg4 arg5 harg5 arg6 harg6 arg7 harg7 arg8 harg8 arg9 harg9 arg10 harg10 arg11 harg11 arg12 harg12 _ _ _ (q16 x2) (qs x3) _ x0 x1 x4 x5 _ _ _ (View.read_writes_full _ _ _ _ _)
    (View.read_writes_full _ _ _ _ _) (View.read_writes_full _ _ _ _ _) _ le_rfl).2.2 _ _ (View.read_writes_full _ _ _ _ _)

theorem r3_eq : kernelRun0_A.sl.r_3 c i arg3 harg3 arg5 harg5 arg6 harg6 arg7 harg7 x0 x2 x3 x4 = diagT i (q16 x2) (qs x3) x0 x4 := by
  unfold kernelRun0_A.sl.r_3 kernelRun0_A.sl.r_2 diagT
  rw [r_eq, r1_eq]
  simp only [View.readAt_eq_ld, Memref.IsWhole.read_unread]

theorem v123_eq : kernelRun0_A.sl.v123 c i arg3 harg3 arg4 harg4 arg5 harg5 arg6 harg6 arg7 harg7 arg8 harg8 arg9 harg9 arg10 harg10 arg11 harg11 arg12 harg12 x0 x1 x2 x3 x4 x5 = finalL i (q16 x2) (qs x3) x0 x4 (lastState i x0 x1 x2 x3 x4 x5) := by
  unfold kernelRun0_A.sl.v123 kernelRun0_A.sl.HS1_1_1 finalL
  rw [View.readCov_full, r3_eq, v74_eq, v91_eq]
  rfl

theorem v122_eq : kernelRun0_A.sl.v122 c i arg3 harg3 arg4 harg4 arg5 harg5 arg6 harg6 arg7 harg7 arg8 harg8 arg9 harg9 arg10 harg10 arg11 harg11 arg12 harg12 x0 x1 x2 x3 x4 x5 = finalA i (q16 x2) (qs x3) x0 x1 x4 x5 (lastState i x0 x1 x2 x3 x4 x5) := by
  unfold kernelRun0_A.sl.v122 kernelRun0_A.sl.HS2_1_1 finalA
  rw [View.readCov_full]
  unfold kernelRun0_A.sl.r_4 kernelRun0_A.sl.r_5 kernelRun0_A.sl.r_6
  rw [r3_eq, v74_eq, v109_eq]
  simp only [View.readAt_eq_ld, Memref.IsWhole.read_unread]
  rfl

/-- The quotient block: numerator over denominator, channels by (head, row). -/
def quot (i : grid0.Coords) (x0 x1 : Vec F S4x128x2 .f32) (x2 : Vec F S1x128x1024 .fp8e4m3) (x3 : Vec F S1x1x1x1024 .f32) (x4 : Vec F S1x16384x128 .fp8e4m3) (x5 : Vec F S1x128x1x128x128 .fp8e4m3) : FVec F S128x1024 .f32 :=
  k0_pay35 (finalA i (q16 x2) (qs x3) x0 x1 x4 x5 (lastState i x0 x1 x2 x3 x4 x5)) (finalL i (q16 x2) (qs x3) x0 x4 (lastState i x0 x1 x2 x3 x4 x5))

/-- The stores of the output block: one per head. -/
theorem run_pieces : (kernelRun0_A (F := F) c i arg3 harg3 arg4 harg4 arg5 harg5 arg6 harg6 arg7 harg7 arg8 harg8 arg9 harg9 arg10 harg10 arg11 harg11 arg12 harg12 x0 x1 x2 x3 x4 x5).1 =
    [⟨Rect.unit ![0, 0, 896] S1x128x128.size inb_S1x128x1024_S1x128x128_0_0_896, k0_pay1 (k0_pay44 (quot i x0 x1 x2 x3 x4 x5))⟩,
     ⟨Rect.unit ![0, 0, 768] S1x128x128.size inb_S1x128x1024_S1x128x128_0_0_768, k0_pay43 (quot i x0 x1 x2 x3 x4 x5)⟩,
     ⟨Rect.unit ![0, 0, 640] S1x128x128.size inb_S1x128x1024_S1x128x128_0_0_640, k0_pay42 (quot i x0 x1 x2 x3 x4 x5)⟩,
     ⟨Rect.unit ![0, 0, 512] S1x128x128.size inb_S1x128x1024_S1x128x128_0_0_512, k0_pay41 (quot i x0 x1 x2 x3 x4 x5)⟩,
     ⟨Rect.unit ![0, 0, 384] S1x128x128.size inb_S1x128x1024_S1x128x128_0_0_384, k0_pay40 (quot i x0 x1 x2 x3 x4 x5)⟩,
     ⟨Rect.unit ![0, 0, 256] S1x128x128.size inb_S1x128x1024_S1x128x128_0_0_256, k0_pay39 (quot i x0 x1 x2 x3 x4 x5)⟩,
     ⟨Rect.unit ![0, 0, 128] S1x128x128.size inb_S1x128x1024_S1x128x128_0_0_128,
       k0_pay38 (k0_pay37 (finalA i (q16 x2) (qs x3) x0 x1 x4 x5 (lastState i x0 x1 x2 x3 x4 x5)) (finalL i (q16 x2) (qs x3) x0 x4 (lastState i x0 x1 x2 x3 x4 x5)))⟩,
     ⟨Rect.unit ![0, 0, 0] S1x128x128.size inb_S1x128x1024_S1x128x128_0_0_0,
       k0_pay36 (finalA i (q16 x2) (qs x3) x0 x1 x4 x5 (lastState i x0 x1 x2 x3 x4 x5)) (finalL i (q16 x2) (qs x3) x0 x4 (lastState i x0 x1 x2 x3 x4 x5))⟩] := by
  unfold kernelRun0_A
  dsimp only
  unfold kernelRun0_A.sl.r_9 kernelRun0_A.sl.r_8 kernelRun0_A.sl.r_7
  rw [v122_eq, v123_eq]
  rfl
end
end Cert.KernelIdeal.Run
-- ==== Proof.Softmax.lean ====
/-
  The arithmetic of the two soft-capped softmaxes over the extended reals, free of any program.  A score `t` is `⊥`
  (masked) or a real (a hyperbolic tangent); its weight `wt t` is `exp (50 t)`, zero where masked.  The kernel weighs a
  block by `exp2 (t C - (μ C - 8))` and puts `exp2 (μ C)` back, `C = 50 / log 2`; the reference weighs by
  `exp (50 t - m)`.  Each is the weight times a positive real which the quotient cancels, so both are
  `quotient` below: no rounding, no order of summation and no choice of the maximum is left in it.
-/
module

public import Idealize.ShloMosaic.PureOps.Ideal
public import Mathlib.Analysis.SpecialFunctions.Pow.Real
public import Mathlib.Data.EReal.Inv

@[expose] public section
noncomputable section

namespace Cert.Softmax
open Idealize.ShloMosaic

/-- The kernel's exponent factor: the cap 50 over `log 2`. -/
def capLog2 : ℝ := 50 * (Real.log 2)⁻¹

/-- A score: masked, or a real. -/
def Score (t : EReal) : Prop := t = ⊥ ∨ ∃ r : ℝ, t = (r : EReal)

/-- The weight of a score: `exp (50 t)`, zero where masked. -/
def wt (t : EReal) : ℝ := if t = ⊥ then 0 else Real.exp (50 * t.toReal)

@[simp] theorem wt_bot : wt ⊥ = 0 := if_pos rfl
@[simp] theorem wt_coe (r : ℝ) : wt (r : EReal) = Real.exp (50 * r) := by
  simp [wt]

theorem wt_nonneg (t : EReal) : 0 ≤ wt t := by
  unfold wt; split_ifs
  · exact le_rfl
  · exact (Real.exp_pos _).le

theorem score_tanh (x : EReal) : ∃ r : ℝ, Ideal.tanh x = (r : EReal) := by
  induction x with
  | bot => exact ⟨-1, by simp⟩
  | top => exact ⟨1, by simp⟩
  | coe r => exact ⟨_, Ideal.tanh_coe r⟩

/-- A weight is at most the weight of a larger real score. -/
theorem wt_le {t : EReal} (ht : Score t) {μ : ℝ} (h : t ≤ (μ : EReal)) : wt t ≤ Real.exp (50 * μ) := by
  rcases ht with rfl | ⟨r, rfl⟩
  · rw [wt_bot]; exact (Real.exp_pos _).le
  · rw [wt_coe]; apply Real.exp_le_exp.mpr; have := EReal.coe_le_coe_iff.mp h; linarith

theorem log2_pos : 0 < Real.log 2 := Real.log_pos (by norm_num)
theorem capLog2_pos : 0 < capLog2 := by unfold capLog2; have := log2_pos; positivity

theorem rpow_cap (x : ℝ) : (2 : ℝ) ^ (x * capLog2) = Real.exp (50 * x) := by
  rw [Real.rpow_def_of_pos (by norm_num)]
  congr 1; unfold capLog2; have := log2_pos.ne'; field_simp

/-- The weight the kernel puts back. -/
theorem back_eq (μ : ℝ) : Ideal.exp2 ((μ : EReal) * (capLog2 : EReal)) = (Real.exp (50 * μ) : EReal) := by
  rw [← EReal.coe_mul, Ideal.exp2_coe]; congr 1; exact rpow_cap μ

/-- The kernel's probability of a score, against any real at least every score of its block. -/
theorem prob_eq {t : EReal} (ht : Score t) (μ : ℝ) :
    Ideal.exp2 (t * (capLog2 : EReal) - ((μ : EReal) * (capLog2 : EReal) - ((8 : ℝ) : EReal)))
      = ((256 * wt t / Real.exp (50 * μ) : ℝ) : EReal) := by
  rcases ht with rfl | ⟨r, rfl⟩
  · rw [EReal.bot_mul_coe_of_pos capLog2_pos, ← EReal.coe_mul, ← EReal.coe_sub, EReal.bot_sub]; simp
  · rw [← EReal.coe_mul, ← EReal.coe_mul, ← EReal.coe_sub, ← EReal.coe_sub, Ideal.exp2_coe, wt_coe]
    congr 1
    show (2 : ℝ) ^ (r * capLog2 - (μ * capLog2 - 8)) = _
    rw [show r * capLog2 - (μ * capLog2 - 8) = r * capLog2 - μ * capLog2 + 8 by ring,
      Real.rpow_add (by norm_num), Real.rpow_sub (by norm_num), rpow_cap, rpow_cap]
    norm_num
    ring

/-- The reference's probability of a score, after subtracting a real. -/
theorem refProb_eq {t : EReal} (ht : Score t) (m : ℝ) :
    Ideal.exp (((50 : ℝ) : EReal) * t - (m : EReal)) = ((wt t * Real.exp (-m) : ℝ) : EReal) := by
  rcases ht with rfl | ⟨r, rfl⟩
  · rw [EReal.coe_mul_bot_of_pos (by norm_num), EReal.bot_sub]; simp
  · rw [← EReal.coe_mul, ← EReal.coe_sub, Ideal.exp_coe, wt_coe, ← Real.exp_add]; rfl

/-- A clip to `[0, 448]` changes nothing in `[0, 256]`. -/
theorem clip_eq {p : ℝ} (h0 : 0 ≤ p) (h1 : p ≤ 256) : min ((448 : ℝ) : EReal) (max 0 (p : EReal)) = (p : EReal) := by
  rw [max_eq_right (by exact_mod_cast h0), min_eq_right (by exact_mod_cast (by linarith : p ≤ 448))]

theorem prob_le {t : EReal} (ht : Score t) {μ : ℝ} (h : t ≤ (μ : EReal)) :
    0 ≤ 256 * wt t / Real.exp (50 * μ) ∧ 256 * wt t / Real.exp (50 * μ) ≤ 256 := by
  have h1 := wt_le ht h
  have h2 := wt_nonneg t
  have h3 := Real.exp_pos (50 * μ)
  refine ⟨by positivity, ?_⟩
  rw [div_le_iff₀ h3]; nlinarith

theorem refProb_le {t : EReal} (ht : Score t) {m : ℝ} (h : ((50 : ℝ) : EReal) * t ≤ (m : EReal)) :
    0 ≤ wt t * Real.exp (-m) * 256 ∧ wt t * Real.exp (-m) * 256 ≤ 256 := by
  have h2 := wt_nonneg t
  have h3 := Real.exp_pos (-m)
  refine ⟨by positivity, ?_⟩
  have : wt t * Real.exp (-m) ≤ 1 := by
    rcases ht with rfl | ⟨r, rfl⟩
    · simp
    · rw [wt_coe, ← Real.exp_add]
      rw [← EReal.coe_mul] at h
      have := EReal.coe_le_coe_iff.mp h
      exact Real.exp_le_one_iff.mpr (by linarith)
  linarith

/-! ### Sums and real factors -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum {ι : Type*} (s : Finset ι) (f : ι → EReal) {k : ℝ} (hk : 0 ≤ k) :
    (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (by exact_mod_cast hk) (EReal.coe_ne_top _), ih]

/-- A block's denominators, with the weight put back. -/
theorem denom_eq {ι : Type*} (s : Finset ι) (t : ι → EReal) (μ : ℝ) :
    (Real.exp (50 * μ) : EReal) * ∑ i ∈ s, ((256 * wt (t i) / Real.exp (50 * μ) : ℝ) : EReal)
      = ((256 * ∑ i ∈ s, wt (t i) : ℝ) : EReal) := by
  rw [← coe_sum, ← EReal.coe_mul]
  congr 1
  rw [Finset.mul_sum, Finset.mul_sum]
  refine Finset.sum_congr rfl fun i _ => ?_
  have := (Real.exp_pos (50 * μ)).ne'
  field_simp

/-- A block's numerators, with the weight put back. -/
theorem numer_eq {ι : Type*} (s : Finset ι) (t v : ι → EReal) (μ : ℝ) (x : EReal) :
    (∑ i ∈ s, v i * ((256 * wt (t i) / Real.exp (50 * μ) : ℝ) : EReal)) * ((Real.exp (50 * μ) : EReal) * x)
      = (256 : ℝ) * ((∑ i ∈ s, v i * (wt (t i) : EReal)) * x) := by
  rw [← mul_assoc, mul_comm _ (Real.exp (50 * μ) : EReal), mul_sum _ _ (Real.exp_pos _).le, ← mul_assoc,
    mul_sum _ _ (by norm_num : (0:ℝ) ≤ 256)]
  congr 1
  refine Finset.sum_congr rfl fun i _ => ?_
  rw [mul_left_comm, mul_left_comm _ (v i), ← EReal.coe_mul, ← EReal.coe_mul]
  congr 2
  have := (Real.exp_pos (50 * μ)).ne'
  field_simp

/-- A quotient whose numerator and divisor carry one positive real factor. -/
theorem div_cancel {k : ℝ} (hk : 0 < k) (x : EReal) {y : ℝ} (hy : 0 < y) :
    Ideal.div ((k : EReal) * x) ((k * y : ℝ) : EReal) = Ideal.div x (y : EReal) := by
  rw [Ideal.div_coe (mul_pos hk hy).ne', Ideal.div_coe hy.ne', mul_comm (k : EReal), mul_assoc, ← EReal.coe_mul]
  congr 2
  field_simp

/-! ### The maximum -/

/-- The maximum of finitely many scores and a score, one of them real, is a real at least every one of them. -/
theorem max_real {ι : Type*} (s : Finset ι) (f : ι → EReal) (hf : ∀ i ∈ s, Score (f i)) {b : EReal} (hb : Score b)
    (h : (∃ i ∈ s, f i ≠ ⊥) ∨ b ≠ ⊥) : ∃ μ : ℝ, max b (s.fold max ⊥ f) = (μ : EReal) ∧ ∀ i ∈ s, f i ≤ (μ : EReal) := by
  have hlt : max b (s.fold max ⊥ f) < ⊤ := by
    refine max_lt ?_ ((Finset.fold_max_lt _).mpr ⟨bot_lt_top, fun i hi => ?_⟩)
    · rcases hb with rfl | ⟨r, rfl⟩
      · exact bot_lt_top
      · exact EReal.coe_lt_top r
    · rcases hf i hi with e | ⟨r, e⟩ <;> rw [e]
      · exact bot_lt_top
      · exact EReal.coe_lt_top r
  have hle : ∀ i ∈ s, f i ≤ max b (s.fold max ⊥ f) := fun i hi =>
    le_max_of_le_right ((Finset.le_fold_max _).mpr (.inr ⟨i, hi, le_rfl⟩))
  have hne : max b (s.fold max ⊥ f) ≠ ⊥ := by
    rcases h with ⟨i, hi, hi'⟩ | hb'
    · exact fun e => hi' (le_bot_iff.mp (e ▸ hle i hi))
    · exact fun e => hb' (le_bot_iff.mp (e ▸ le_max_left _ _))
  refine ⟨(max b (s.fold max ⊥ f)).toReal, (EReal.coe_toReal hlt.ne hne).symm, ?_⟩
  rw [EReal.coe_toReal hlt.ne hne]
  exact hle

/-- One block at one column: whatever the running maximum was, its denominators and numerators, with the weight put
    back, are 256 times sums of weights. -/
theorem step {m M s : EReal} {T : Fin 128 → EReal} (hT : ∀ c, Score (T c)) (hm : Score m) (h : (∃ c, T c ≠ ⊥) ∨ m ≠ ⊥)
    (hM : M = max m (Finset.univ.fold max ⊥ T)) {P : Fin 128 → EReal} {W : EReal}
    (hP : ∀ c, P c = Ideal.exp2 (T c * (capLog2 : EReal) - (M * (capLog2 : EReal) - ((8 : ℝ) : EReal))))
    (hW : W = Ideal.exp2 (M * (capLog2 : EReal))) :
    (∃ μ : ℝ, M = (μ : EReal))
    ∧ (∀ r : Fin 8, W * ∑ a : Fin 16, P ⟨a.val * 8 + r.val, by omega⟩ = ((256 * ∑ a : Fin 16, wt (T ⟨a.val * 8 + r.val, by omega⟩) : ℝ) : EReal))
    ∧ ∀ V : Fin 128 → EReal, (∑ c, V c * min ((448 : ℝ) : EReal) (max 0 (P c))) * (W * s)
        = (256 : ℝ) * ((∑ c, V c * (wt (T c) : EReal)) * s) := by
  obtain ⟨μ, e, hle⟩ := max_real Finset.univ T (fun c _ => hT c) hm (h.imp (fun ⟨c, hc⟩ => ⟨c, Finset.mem_univ _, hc⟩) id)
  have eM : M = (μ : EReal) := hM.trans e
  have eP : ∀ c, P c = ((256 * wt (T c) / Real.exp (50 * μ) : ℝ) : EReal) := fun c => by rw [hP, eM, prob_eq (hT c)]
  have eW : W = (Real.exp (50 * μ) : EReal) := by rw [hW, eM, back_eq]
  refine ⟨⟨μ, eM⟩, fun r => ?_, fun V => ?_⟩
  · rw [eW, Finset.sum_congr rfl fun a _ => eP _, denom_eq]
  · have : ∀ c, V c * min ((448 : ℝ) : EReal) (max 0 (P c)) = V c * ((256 * wt (T c) / Real.exp (50 * μ) : ℝ) : EReal) := fun c => by
      obtain ⟨h0, h1⟩ := prob_le (hT c) (hle c (Finset.mem_univ _))
      rw [eP, clip_eq h0 h1]
    rw [Finset.sum_congr rfl fun c _ => this c, eW, numer_eq]

/-! ### The common value -/

/-- The quotient both programs compute at one output: scores `t j c`, values `v j c`, value scales `s j`. -/
def quotient {J : Type*} (S : Finset J) (t v : J → Fin 128 → EReal) (s : J → EReal) : EReal :=
  Ideal.div (∑ j ∈ S, (∑ c : Fin 128, v j c * (wt (t j c) : EReal)) * s j) ((∑ j ∈ S, ∑ c : Fin 128, wt (t j c) : ℝ) : EReal)

/-- The divisor is positive as soon as one score is not masked. -/
theorem total_pos {J : Type*} (S : Finset J) (t : J → Fin 128 → EReal) (ht : ∀ j ∈ S, ∀ c, Score (t j c)) {j : J} (hj : j ∈ S) {c : Fin 128}
    (h : t j c ≠ ⊥) : 0 < ∑ j ∈ S, ∑ c : Fin 128, wt (t j c) := by
  refine Finset.sum_pos' (fun j _ => Finset.sum_nonneg fun c _ => wt_nonneg _) ⟨j, hj, ?_⟩
  refine Finset.sum_pos' (fun c _ => wt_nonneg _) ⟨c, Finset.mem_univ _, ?_⟩
  rcases ht j hj c with e | ⟨r, e⟩
  · exact absurd e h
  · rw [e, wt_coe]; exact Real.exp_pos _

/-- The kernel's end: numerator and denominator carry the factor 256. -/
theorem kernel_quotient {J : Type*} (S : Finset J) (t v : J → Fin 128 → EReal) (s : J → EReal)
    (h : 0 < ∑ j ∈ S, ∑ c : Fin 128, wt (t j c)) :
    Ideal.div (∑ j ∈ S, (256 : ℝ) * ((∑ c : Fin 128, v j c * (wt (t j c) : EReal)) * s j))
      (∑ r : Fin 8, ((256 * ∑ j ∈ S, ∑ a : Fin 16, wt (t j ⟨a.val * 8 + r.val, by omega⟩) : ℝ) : EReal)) = quotient S t v s := by
  unfold quotient
  rw [← mul_sum _ _ (by norm_num : (0:ℝ) ≤ 256), ← coe_sum, ← Finset.mul_sum, Finset.sum_comm]
  have e : ∀ j, (∑ r : Fin 8, ∑ a : Fin 16, wt (t j ⟨a.val * 8 + r.val, by omega⟩)) = ∑ c : Fin 128, wt (t j c) := by
    intro j
    rw [Finset.sum_comm, ← Fintype.sum_prod_type' (f := fun (a : Fin 16) (r : Fin 8) => wt (t j ⟨a.val * 8 + r.val, by omega⟩))]
    refine Fintype.sum_equiv (finProdFinEquiv (m := 16) (n := 8)) _ _ fun x => ?_
    congr 2
    refine Fin.ext ?_
    simp [finProdFinEquiv]; ring
  rw [Finset.sum_congr rfl fun j _ => e j]
  exact div_cancel (by norm_num) _ h

/-- The reference's end: numerator and denominator carry the factor `exp (-m)`. -/
theorem ref_quotient {J : Type*} (S : Finset J) (t v : J → Fin 128 → EReal) (s : J → EReal) (m : ℝ)
    (h : 0 < ∑ j ∈ S, ∑ c : Fin 128, wt (t j c)) :
    Ideal.div (∑ j ∈ S, (∑ c : Fin 128, ((wt (t j c) * Real.exp (-m) * 256 : ℝ) : EReal) * v j c) * (s j * ((1 / 256 : ℝ) : EReal)))
      (∑ j ∈ S, ∑ c : Fin 128, ((wt (t j c) * Real.exp (-m) : ℝ) : EReal)) = quotient S t v s := by
  unfold quotient
  have e1 : ∀ j, (∑ c : Fin 128, ((wt (t j c) * Real.exp (-m) * 256 : ℝ) : EReal) * v j c) * (s j * ((1 / 256 : ℝ) : EReal))
      = (Real.exp (-m) : EReal) * ((∑ c : Fin 128, v j c * (wt (t j c) : EReal)) * s j) := by
    intro j
    rw [mul_comm (s j), ← mul_assoc, mul_comm _ ((1 / 256 : ℝ) : EReal), mul_sum _ _ (by norm_num : (0:ℝ) ≤ 1/256), ← mul_assoc,
      mul_sum _ _ (Real.exp_pos _).le]
    congr 1
    refine Finset.sum_congr rfl fun c _ => ?_
    rw [mul_comm _ (v j c), mul_left_comm, mul_left_comm _ (v j c), ← EReal.coe_mul, ← EReal.coe_mul]
    congr 2
    ring
  have e2 : (∑ j ∈ S, ∑ c : Fin 128, ((wt (t j c) * Real.exp (-m) : ℝ) : EReal))
      = ((Real.exp (-m) * ∑ j ∈ S, ∑ c : Fin 128, wt (t j c) : ℝ) : EReal) := by
    rw [Finset.sum_congr rfl fun j _ => (coe_sum _ _).symm, ← coe_sum]
    congr 1
    rw [Finset.mul_sum]
    refine Finset.sum_congr rfl fun j _ => ?_
    rw [Finset.mul_sum]
    exact Finset.sum_congr rfl fun c _ => mul_comm _ _
  rw [Finset.sum_congr rfl fun j _ => e1 j, ← mul_sum _ _ (Real.exp_pos _).le, e2]
  exact div_cancel (Real.exp_pos _) _ h

end Cert.Softmax
-- ==== Proof.Consts.lean ====
/-
  The float constants the two programs spell, as the extended reals their patterns denote, and the three named
  constants of the kernel.
-/
module

public import proofs.«01_k».proof.Proof.Gen.KernelIdeal
public import Idealize.ShloMosaic.PureOps.IdealRules
public import proofs.«01_k».proof.Proof.Softmax

@[expose] public section
noncomputable section

namespace Cert.Consts
open Idealize.ShloMosaic

/-- `448.0`, the largest number of the 8-bit format. -/
theorem ofBits_448 : Ideal.ofBits .f32 1138753536#32 = ((448 : ℝ) : EReal) := by
  simp [Ideal.ofBits, Ideal.ieee, -EReal.coe_mul]; norm_num
/-- `8.0`. -/
theorem ofBits_8 : Ideal.ofBits .f32 1090519040#32 = ((8 : ℝ) : EReal) := by
  simp [Ideal.ofBits, Ideal.ieee, -EReal.coe_mul]; norm_num
/-- `128.0`, the head size. -/
theorem ofBits_128 : Ideal.ofBits .f32 1124073472#32 = ((128 : ℝ) : EReal) := by
  simp [Ideal.ofBits, Ideal.ieee, -EReal.coe_mul]; norm_num
/-- `50.0`, the cap. -/
theorem ofBits_50 : Ideal.ofBits .f32 1112014848#32 = ((50 : ℝ) : EReal) := by
  simp [Ideal.ofBits, Ideal.ieee, -EReal.coe_mul]; norm_num
/-- `256.0`. -/
theorem ofBits_256 : Ideal.ofBits .f32 1132462080#32 = ((256 : ℝ) : EReal) := by
  simp [Ideal.ofBits, Ideal.ieee, -EReal.coe_mul]; norm_num
/-- `2^-8`. -/
theorem ofBits_2m8 : Ideal.ofBits .f32 998244352#32 = ((1 / 256 : ℝ) : EReal) := by
  simp [Ideal.ofBits, Ideal.ieee, -EReal.coe_mul]; norm_num
/-- The pattern of `-inf`. -/
theorem ofBits_neg_inf : Ideal.ofBits .f32 4286578688#32 = ⊥ := by
  simp [Ideal.ofBits, Ideal.ieee]

/-- `sm_scale / cap`: the root of the head size, and the cap, below one. -/
theorem named_scale : Named.named (F := Ideal) Cert.KernelIdeal.κ "sm_scale_over_cap" (φ := .f32) 988263530#32
    = (((Real.sqrt 128)⁻¹ * (1 / 50) : ℝ) : EReal) :=
  IdealRules.named_const.ideal_named_scalar _ _ _ _ rfl
/-- The mask. -/
theorem named_neg_inf : Named.named (F := Ideal) Cert.KernelIdeal.κ "neg_inf" (φ := .f32) 4048155338#32 = (⊥ : EReal) :=
  IdealRules.named_const.ideal_named_scalar _ _ _ _ rfl
/-- The cap over `log 2`. -/
theorem named_cap : Named.named (F := Ideal) Cert.KernelIdeal.κ "cap_log2e" (φ := .f32) 1116751102#32 = ((Softmax.capLog2 : ℝ) : EReal) :=
  IdealRules.named_const.ideal_named_scalar _ _ _ _ rfl

end Cert.Consts
-- ==== Proof.Payload.lean ====
/-
  The kernel's payloads at the extended reals, read at an index: sums over the contracted axis, maxima as folds, and the
  named constants as the reals they name.
-/
module

public import proofs.«01_k».proof.Proof.KernelRun
public import proofs.«01_k».proof.Proof.Consts
public import Idealize.ShloMosaic.PureOps.Ideal.Laws

@[expose] public section
noncomputable section

namespace Cert.KernelIdeal.Run
open Cert.KernelIdeal Cert.KernelIdeal.Gen
open Idealize.ShloMosaic Idealize.ShloMosaic.TcCoe
open Cert.Softmax (capLog2)

section
variable (v16 : FVec Ideal S1024x128 .fp8e4m3) (v20 : FVec Ideal S1x1024 .f32) (K : Vec Ideal S1x128x128 .fp8e4m3) (s : Elt Ideal .f32)
variable (m : Vec Ideal S1x1024 .f32) (l : Vec Ideal S8x1024 .f32)

/-- A block's score: the tangent of the scaled product. -/
theorem pay2_apply (c : Fin 128) (col : Fin 1024) :
    k0_pay2 v16 v20 K s (ix2 c col) = Ideal.tanh ((∑ d : Fin 128, K (ix3 0 c d) * v16 (ix2 col d)) * (v20 (ix2 0 col) * s)) := by
  unfold k0_pay2
  pointwise

/-- The running maximum after a block. -/
theorem pay3_apply (col : Fin 1024) :
    k0_pay3 v16 v20 K s m (ix2 0 col) = max (m (ix2 0 col)) ((Finset.univ : Finset (Fin 128)).fold max ⊥ fun c => k0_pay2 v16 v20 K s (ix2 c col)) := by
  unfold k0_pay3
  generalize k0_pay2 v16 v20 K s = T
  pointwise
  rw [Consts.ofBits_neg_inf]

theorem pay4_apply (col : Fin 1024) : k0_pay4 v16 v20 K s m (ix2 0 col) = k0_pay3 v16 v20 K s m (ix2 0 col) := by
  unfold k0_pay4
  generalize k0_pay3 v16 v20 K s m = T
  pointwise

/-- A block's probability. -/
theorem pay6_apply (c : Fin 128) (col : Fin 1024) :
    k0_pay6 v16 v20 K s m (ix2 c col) = Ideal.exp2 (k0_pay2 v16 v20 K s (ix2 c col) * (capLog2 : EReal)
      - (k0_pay3 v16 v20 K s m (ix2 0 col) * (capLog2 : EReal) - ((8 : ℝ) : EReal))) := by
  unfold k0_pay6 k0_pay5
  generalize k0_pay2 v16 v20 K s = T
  generalize k0_pay3 v16 v20 K s m = M
  pointwise
  rw [Consts.ofBits_8, Consts.named_cap]
  rfl

/-- The weight put back. -/
theorem pay7_apply (col : Fin 1024) :
    k0_pay7 v16 v20 K s m (ix2 0 col) = Ideal.exp2 (k0_pay3 v16 v20 K s m (ix2 0 col) * (capLog2 : EReal)) := by
  unfold k0_pay7 k0_pay5
  generalize k0_pay3 v16 v20 K s m = M
  pointwise
  rw [Consts.named_cap]
  rfl

/-- The running denominator (of one residue of eight) after a block. -/
theorem pay8_apply (r : Fin 8) (col : Fin 1024) :
    k0_pay8 v16 v20 K s m l (ix2 r col) = l (ix2 r col) + k0_pay7 v16 v20 K s m (ix2 0 col)
      * ∑ a : Fin 16, k0_pay6 v16 v20 K s m (ix2 ⟨a.val * 8 + r.val, by omega⟩ col) := by
  unfold k0_pay8
  generalize k0_pay6 v16 v20 K s m = T
  generalize k0_pay7 v16 v20 K s m = M
  pointwise
end

/-- The running numerator after a block. -/
theorem pay21_apply (P : FVec Ideal S128x1024 .f32) (W : FVec Ideal S1x1024 .f32) (V : Vec Ideal S1x1x1x128x128 .fp8e4m3)
    (A : Vec Ideal S128x1024 .f32) (s : Elt Ideal .f32) (d : Fin 128) (col : Fin 1024) :
    k0_pay21 P W V A s (ix2 d col) = A (ix2 d col)
      + (∑ c : Fin 128, V (ix5 0 0 0 d c) * min ((448 : ℝ) : EReal) (max 0 (P (ix2 c col)))) * (W (ix2 0 col) * s) := by
  unfold k0_pay21
  pointwise
  rw [Consts.ofBits_448]

theorem pay18_apply (col : Fin 1024) : (k0_pay18 : FVec Ideal S1x1024 .f32) (ix2 0 col) = ⊥ := by
  unfold k0_pay18
  pointwise
  exact Consts.named_neg_inf
theorem pay19_apply (r : Fin 8) (col : Fin 1024) : (k0_pay19 : FVec Ideal S8x1024 .f32) (ix2 r col) = 0 := by
  unfold k0_pay19
  pointwise
theorem pay20_apply (d : Fin 128) (col : Fin 1024) : (k0_pay20 : FVec Ideal S128x1024 .f32) (ix2 d col) = 0 := by
  unfold k0_pay20
  pointwise

/-! ### The diagonal block -/

section
variable (T : FVec Ideal S128x1024 .f32) (m : Vec Ideal S1x1024 .f32) (l : Vec Ideal S8x1024 .f32)

/-- The masked scores of the diagonal block. -/
def maskT : FVec Ideal S128x1024 .f32 :=
  k0_pay26 T (iota Kind.tc S128x1024 32 [0] iota_S128x1024_d0_w32) 128#32 k0_pay24 k0_pay25
/-- The running maximum after the diagonal block. -/
def diagM : FVec Ideal S1x1024 .f32 :=
  k0_pay27 T (iota Kind.tc S128x1024 32 [0] iota_S128x1024_d0_w32) 128#32 k0_pay24 k0_pay25 m
/-- The diagonal block's probabilities. -/
def diagP : FVec Ideal S128x1024 .f32 :=
  k0_pay30 T (iota Kind.tc S128x1024 32 [0] iota_S128x1024_d0_w32) 128#32 k0_pay24 k0_pay25 m
/-- The weight put back. -/
def diagW : FVec Ideal S1x1024 .f32 :=
  k0_pay31 T (iota Kind.tc S128x1024 32 [0] iota_S128x1024_d0_w32) 128#32 k0_pay24 k0_pay25 m

/-- The kernel's remainder by 128, with the sign of the divisor, of a column number. -/
theorem floorMod_eq : ∀ n : Fin 1024,
    Scalar.select
      (IntOp.andi
        (IntOp.xori (IntOp.cmpi CmpIPredicate.slt (IntOp.remsi ArithUnit.vector (BitVec.ofNat 32 n.val) (Scalar.select (Scalar.cmpi CmpIPredicate.eq 128#32 0#32) 1#32 128#32)) 0#32) (Scalar.cmpi CmpIPredicate.slt 128#32 0#32))
        (IntOp.cmpi CmpIPredicate.ne (IntOp.remsi ArithUnit.vector (BitVec.ofNat 32 n.val) (Scalar.select (Scalar.cmpi CmpIPredicate.eq 128#32 0#32) 1#32 128#32)) 0#32))
      (IntOp.addi (IntOp.remsi ArithUnit.vector (BitVec.ofNat 32 n.val) (Scalar.select (Scalar.cmpi CmpIPredicate.eq 128#32 0#32) 1#32 128#32)) 128#32) (IntOp.remsi ArithUnit.vector (BitVec.ofNat 32 n.val) (Scalar.select (Scalar.cmpi CmpIPredicate.eq 128#32 0#32) 1#32 128#32)) = BitVec.ofNat 32 (n.val % 128) := by
  decide +kernel

/-- Signed comparison of two numbers below 128. -/
theorem sle_eq : ∀ a b : Fin 128,
    IntOp.cmpi CmpIPredicate.sle (BitVec.ofNat 32 a.val) (BitVec.ofNat 32 b.val) = if a.val ≤ b.val then 1#1 else 0#1 := by
  decide +kernel

/-- The mask: key `c` of the diagonal block is seen by query row `col % 128` when it is not after it. -/
theorem maskT_apply (c : Fin 128) (col : Fin 1024) :
    maskT T (ix2 c col) = if c.val ≤ col.val % 128 then T (ix2 c col) else ⊥ := by
  unfold maskT k0_pay26 k0_pay25 k0_pay24
  pointwise
  rw [floorMod_eq col, sle_eq c ⟨col.val % 128, Nat.mod_lt _ (by norm_num)⟩, Consts.named_neg_inf]
  by_cases h : c.val ≤ col.val % 128
  · rw [if_pos h, if_pos h]; rfl
  · rw [if_neg h, if_neg h]; rfl

theorem diagM_apply (col : Fin 1024) :
    diagM T m (ix2 0 col) = max (m (ix2 0 col)) ((Finset.univ : Finset (Fin 128)).fold max ⊥ fun c => maskT T (ix2 c col)) := by
  unfold diagM k0_pay27
  change _ = max _ (Finset.fold _ _ (fun c => k0_pay26 T (iota Kind.tc S128x1024 32 [0] iota_S128x1024_d0_w32) 128#32 k0_pay24 k0_pay25 (ix2 c col)) _)
  generalize k0_pay26 T (iota Kind.tc S128x1024 32 [0] iota_S128x1024_d0_w32) 128#32 k0_pay24 k0_pay25 = M
  pointwise
  rw [Consts.ofBits_neg_inf]

theorem diagP_apply (c : Fin 128) (col : Fin 1024) :
    diagP T m (ix2 c col) = Ideal.exp2 (maskT T (ix2 c col) * (capLog2 : EReal)
      - (diagM T m (ix2 0 col) * (capLog2 : EReal) - ((8 : ℝ) : EReal))) := by
  unfold diagP maskT diagM k0_pay30 k0_pay29
  generalize k0_pay26 T (iota Kind.tc S128x1024 32 [0] iota_S128x1024_d0_w32) 128#32 k0_pay24 k0_pay25 = M
  generalize k0_pay27 T (iota Kind.tc S128x1024 32 [0] iota_S128x1024_d0_w32) 128#32 k0_pay24 k0_pay25 m = N
  pointwise
  rw [Consts.ofBits_8, Consts.named_cap]
  rfl

theorem diagW_apply (col : Fin 1024) :
    diagW T m (ix2 0 col) = Ideal.exp2 (diagM T m (ix2 0 col) * (capLog2 : EReal)) := by
  unfold diagW diagM k0_pay31 k0_pay29
  generalize k0_pay27 T (iota Kind.tc S128x1024 32 [0] iota_S128x1024_d0_w32) 128#32 k0_pay24 k0_pay25 m = N
  pointwise
  rw [Consts.named_cap]
  rfl

/-- The denominator after the diagonal block. -/
theorem pay32_apply (r : Fin 8) (col : Fin 1024) :
    k0_pay32 T (iota Kind.tc S128x1024 32 [0] iota_S128x1024_d0_w32) 128#32 k0_pay24 k0_pay25 m l (ix2 r col)
      = l (ix2 r col) + diagW T m (ix2 0 col) * ∑ a : Fin 16, diagP T m (ix2 ⟨a.val * 8 + r.val, by omega⟩ col) := by
  unfold k0_pay32 diagW diagP
  generalize k0_pay30 T (iota Kind.tc S128x1024 32 [0] iota_S128x1024_d0_w32) 128#32 k0_pay24 k0_pay25 m = M
  generalize k0_pay31 T (iota Kind.tc S128x1024 32 [0] iota_S128x1024_d0_w32) 128#32 k0_pay24 k0_pay25 m = N
  pointwise
end

/-- The numerator after the diagonal block. -/
theorem pay34_apply (P : FVec Ideal S128x1024 .f32) (W : FVec Ideal S1x1024 .f32) (V : Vec Ideal S1x1x1x128x128 .fp8e4m3)
    (A : Vec Ideal S128x1024 .f32) (s : Elt Ideal .f32) (d : Fin 128) (col : Fin 1024) :
    k0_pay34 P W (FloatOps.ofBits FTy.f32 1138753536#32) k0_pay33 V A s (ix2 d col) = A (ix2 d col)
      + (∑ c : Fin 128, V (ix5 0 0 0 d c) * min ((448 : ℝ) : EReal) (max 0 (P (ix2 c col)))) * (W (ix2 0 col) * s) := by
  unfold k0_pay34 k0_pay33
  pointwise
  rw [Consts.ofBits_448]

/-- The quotient. -/
theorem pay35_apply (A : Vec Ideal S128x1024 .f32) (L : Vec Ideal S8x1024 .f32) (d : Fin 128) (col : Fin 1024) :
    k0_pay35 A L (ix2 d col) = Ideal.div (A (ix2 d col)) (∑ r : Fin 8, L (ix2 r col)) := by
  unfold k0_pay35
  pointwise

/-! ### The query block -/

theorem qs_apply (x3 : Vec Ideal S1x1x1x1024 .f32) (col : Fin 1024) :
    qs x3 (ix2 0 col) = x3 (ix4 0 0 0 col) * (((Real.sqrt 128)⁻¹ * (1 / 50) : ℝ) : EReal) := by
  unfold qs k0_pay17
  pointwise
  rw [Consts.named_scale]

theorem q16_apply (x2 : Vec Ideal S1x128x1024 .fp8e4m3) (col : Fin 1024) (d : Fin 128) :
    q16 x2 (ix2 col d) = x2 (ix3 0 ⟨col.val % 128, Nat.mod_lt _ (by norm_num)⟩ ⟨128 * (col.val / 128) + d.val, by omega⟩) := by
  unfold q16 k0_pay16
  pointwise
  split_ifs <;> exact congrArg x2 (congrArg₂ (ix3 0) (Fin.ext (by dsimp only; omega)) (Fin.ext (by dsimp only; omega)))

end Cert.KernelIdeal.Run
-- ==== Proof.BlockValue.lean ====
/-
  The kernel's value at one grid point, in closed form: at every (channel, column) of the quotient block the quotient of
  Proof/Softmax.lean over the key blocks up to the diagonal.  The invariant `Inv` states what the three scratch buffers
  hold after the first `k` key blocks: sums of weights over those blocks, whatever the running maxima were.
-/
module

public import proofs.«01_k».proof.Proof.Payload
public import Idealize.ShloMosaic.Lib.Pipeline.ValueKit.Tiles

@[expose] public section
noncomputable section

namespace Cert.KernelIdeal.Run
open Cert.KernelIdeal Cert.KernelIdeal.Gen
open Idealize.ShloMosaic Idealize.ShloMosaic.TcCoe
open Cert.Softmax

/-- The key blocks before block `k`. -/
def before (k : ℕ) : Finset (Fin 128) := Finset.univ.filter fun j => j.val < k

theorem mem_before {k : ℕ} {j : Fin 128} : j ∈ before k ↔ j.val < k := by simp [before]

theorem sum_before_succ {M : Type*} [AddCommMonoid M] (k : ℕ) (h : k < 128) (f : Fin 128 → M) :
    ∑ j ∈ before (k + 1), f j = ∑ j ∈ before k, f j + f ⟨k, h⟩ := by
  have e : before (k + 1) = insert ⟨k, h⟩ (before k) := by
    ext j
    rw [Finset.mem_insert, mem_before, mem_before, Fin.ext_iff]
    dsimp only
    omega
  rw [e, Finset.sum_insert (by rw [mem_before]; exact lt_irrefl k), add_comm]

section
variable (i : grid0.Coords)
variable (x0 x1 : Vec Ideal S4x128x2 .f32) (x2 : Vec Ideal S1x128x1024 .fp8e4m3) (x3 : Vec Ideal S1x1x1x1024 .f32)
variable (x4 : Vec Ideal S1x16384x128 .fp8e4m3) (x5 : Vec Ideal S1x128x1x128x128 .fp8e4m3)

/-- The grid point's batch, kv head and query block. -/
def gb (i : grid0.Coords) : Fin 4 := ⟨(i 0).val, (i 0).isLt⟩
def gh (i : grid0.Coords) : Fin 2 := ⟨(i 1).val, (i 1).isLt⟩
def gn (i : grid0.Coords) : Fin 128 := ⟨(i 2).val, (i 2).isLt⟩

/-- The score of key `c` of block `j` against column `col` (head `col / 128`, row `col % 128`), before the mask. -/
def score (col : Fin 1024) (j c : Fin 128) : EReal :=
  Ideal.tanh ((∑ d : Fin 128, x4 (ix3 0 ⟨128 * j.val + c.val, by omega⟩ d)
      * x2 (ix3 0 ⟨col.val % 128, Nat.mod_lt _ (by norm_num)⟩ ⟨128 * (col.val / 128) + d.val, by omega⟩))
    * (x3 (ix4 0 0 0 col) * (((Real.sqrt 128)⁻¹ * (1 / 50) : ℝ) : EReal) * x0 (ix3 (gb i) j (gh i))))

/-- The causal score: `⊥` after the query's position. -/
def cscore (col : Fin 1024) (j c : Fin 128) : EReal :=
  if 128 * j.val + c.val ≤ 128 * (gn i).val + col.val % 128 then score i x0 x2 x3 x4 col j c else ⊥

theorem cscore_score (col : Fin 1024) (j c : Fin 128) : Score (cscore i x0 x2 x3 x4 col j c) := by
  unfold cscore
  split_ifs
  · exact .inr (score_tanh _)
  · exact .inl rfl

theorem score_ne (col : Fin 1024) (j c : Fin 128) : score i x0 x2 x3 x4 col j c ≠ ⊥ := by
  obtain ⟨r, e⟩ := score_tanh ((∑ d : Fin 128, x4 (ix3 0 ⟨128 * j.val + c.val, by omega⟩ d)
      * x2 (ix3 0 ⟨col.val % 128, Nat.mod_lt _ (by norm_num)⟩ ⟨128 * (col.val / 128) + d.val, by omega⟩))
    * (x3 (ix4 0 0 0 col) * (((Real.sqrt 128)⁻¹ * (1 / 50) : ℝ) : EReal) * x0 (ix3 (gb i) j (gh i))))
  unfold score
  rw [e]
  exact EReal.coe_ne_bot r

/-- The first key of a block up to the diagonal is never masked. -/
theorem cscore_zero_ne (col : Fin 1024) (j : Fin 128) (h : j.val ≤ (gn i).val) : cscore i x0 x2 x3 x4 col j 0 ≠ ⊥ := by
  unfold cscore
  rw [if_pos (by have : (0 : Fin 128).val = 0 := rfl; omega)]
  exact score_ne i x0 x2 x3 x4 col j 0

/-- The value of channel `d` at key `c` of block `j`, and the block's value scale. -/
def val (d : Fin 128) (j c : Fin 128) : EReal := x5 (ix5 0 j 0 d c)
def vscale (j : Fin 128) : EReal := x1 (ix3 (gb i) j (gh i))

theorem trips_eq : (k0_t1_loop i).trips = (gn i).val := by
  have h : ∀ n : Fin 128, Scf.trips 0#32 (Scalar.addi 0#32 (Scalar.muli (Scalar.divsi (Scalar.subi (BitVec.ofNat 32 n.val) 0#32) 1#32) 1#32)) 1#32
      = n.val := by decide +kernel
  exact h (gn i)

theorem key_apply (k : Fin (k0_t1_loop i).trips) (hk : k.val < 128) (c d : Fin 128) :
    keyBlk i x4 k (ix3 0 c d) = x4 (ix3 0 ⟨128 * k.val + c.val, by omega⟩ d) := by
  unfold keyBlk
  refine View.ld_unit_apply_of _ _ _ _ _ _ fun a => ?_
  refine Eq.trans ?_ (congrArg (· + _) (congrFun (k0_off1_eq i k) a).symm)
  fin_cases a <;> simp [ix3]

theorem val_apply (k : Fin (k0_t1_loop i).trips) (hk : k.val < 128) (d c : Fin 128) :
    valBlk i x5 k (ix5 0 0 0 d c) = x5 (ix5 0 ⟨k.val, hk⟩ 0 d c) := by
  unfold valBlk
  refine View.ld_unit_apply_of _ _ _ _ _ _ fun a => ?_
  refine Eq.trans ?_ (congrArg (· + _) (congrFun (k0_off3_eq i k) a).symm)
  fin_cases a <;> simp [ix5]

theorem scl_apply (x : Vec Ideal S4x128x2 .f32) (k : Fin (k0_t1_loop i).trips) (hk : k.val < 128) :
    sclBlk i x k = x (ix3 (gb i) ⟨k.val, hk⟩ (gh i)) := by
  unfold sclBlk
  refine View.ld_unit_apply_of _ _ _ _ _ _ fun a => ?_
  refine Eq.trans ?_ (congrArg (· + _) (congrFun (k0_off2_eq i k) a).symm)
  fin_cases a <;> simp [ix3, gb, gh, Shape.Idx.first]

/-- A block's scores below the diagonal. -/
theorem below_apply (k : Fin (k0_t1_loop i).trips) (hk : k.val < 128) (c : Fin 128) (col : Fin 1024) :
    k0_pay2 (q16 x2) (qs x3) (keyBlk i x4 k) (sclBlk i x0 k) (ix2 c col) = cscore i x0 x2 x3 x4 col ⟨k.val, hk⟩ c := by
  have ht : k.val < (gn i).val := lt_of_lt_of_eq k.isLt (trips_eq i)
  rw [pay2_apply, cscore, if_pos (by dsimp only; omega), score, qs_apply, scl_apply i x0 k hk]
  congr 2
  refine Finset.sum_congr rfl fun d _ => ?_
  rw [key_apply i x4 k hk, q16_apply]

/-- The diagonal block's scores, masked. -/
theorem diag_apply (c : Fin 128) (col : Fin 1024) :
    maskT (diagT i (q16 x2) (qs x3) x0 x4) (ix2 c col) = cscore i x0 x2 x3 x4 col (gn i) c := by
  rw [maskT_apply, cscore]
  have e1 : ∀ d : Fin 128, View.ld x4 (Rect.unit (k0_off7 i) S1x128x128.size (k0_off7_inb i)) (ix3 0 c d)
      = x4 (ix3 0 ⟨128 * (gn i).val + c.val, by omega⟩ d) := fun d => by
    refine View.ld_unit_apply_of _ _ _ _ _ _ fun a => ?_
    refine Eq.trans ?_ (congrArg (· + _) (congrFun (k0_off7_eq i) a).symm)
    fin_cases a <;> simp [ix3, gn]
  have e2 : View.ld x0 (Rect.unit (k0_off8 i) S1x1x1.size (k0_off8_inb i)) (Shape.Idx.first (lt_of_lt_of_eq Nat.one_pos numel1_S1x1x1.symm))
      = x0 (ix3 (gb i) (gn i) (gh i)) := by
    refine View.ld_unit_apply_of _ _ _ _ _ _ fun a => ?_
    refine Eq.trans ?_ (congrArg (· + _) (congrFun (k0_off8_eq i) a).symm)
    fin_cases a <;> simp [ix3, gb, gn, gh, Shape.Idx.first]
  have e : diagT i (q16 x2) (qs x3) x0 x4 (ix2 c col) = score i x0 x2 x3 x4 col (gn i) c := by
    unfold diagT
    refine (pay2_apply _ _ _ _ c col).trans ?_
    rw [score, qs_apply, e2]
    congr 2
    refine Finset.sum_congr rfl fun d _ => ?_
    rw [e1, q16_apply]
  rw [e]
  by_cases h : c.val ≤ col.val % 128
  · rw [if_pos h, if_pos (by omega)]
  · rw [if_neg h, if_neg (by omega)]

/-- What the scratch buffers hold at a column after the first `k` key blocks. -/
def Inv (col : Fin 1024) (k : ℕ) (m : EReal) (l : Fin 8 → EReal) (a : Fin 128 → EReal) : Prop :=
  Score m
  ∧ (∀ r : Fin 8, l r = ((256 * ∑ j ∈ before k, ∑ a : Fin 16, wt (cscore i x0 x2 x3 x4 col j ⟨a.val * 8 + r.val, by omega⟩) : ℝ) : EReal))
  ∧ ∀ d : Fin 128, a d = ∑ j ∈ before k, (256 : ℝ) * ((∑ c : Fin 128, val x5 d j c * (wt (cscore i x0 x2 x3 x4 col j c) : EReal)) * vscale i x1 j)

/-- One block carries the invariant on. -/
theorem Inv.step {col : Fin 1024} {k : ℕ} {m : EReal} {l : Fin 8 → EReal} {a : Fin 128 → EReal}
    (h : Inv i x0 x1 x2 x3 x4 x5 col k m l a) (hk : k < 128) (hn : k ≤ (gn i).val)
    {T : Fin 128 → EReal} (hT : ∀ c, T c = cscore i x0 x2 x3 x4 col ⟨k, hk⟩ c)
    {M : EReal} (hM : M = max m (Finset.univ.fold max ⊥ T)) {P : Fin 128 → EReal} {W : EReal}
    (hP : ∀ c, P c = Ideal.exp2 (T c * (capLog2 : EReal) - (M * (capLog2 : EReal) - ((8 : ℝ) : EReal))))
    (hW : W = Ideal.exp2 (M * (capLog2 : EReal)))
    {V : Fin 128 → Fin 128 → EReal} (hV : ∀ d c, V d c = x5 (ix5 0 ⟨k, hk⟩ 0 d c)) {s : EReal} (hs : s = x1 (ix3 (gb i) ⟨k, hk⟩ (gh i))) :
    Inv i x0 x1 x2 x3 x4 x5 col (k + 1) M
      (fun r => l r + W * ∑ a : Fin 16, P ⟨a.val * 8 + r.val, by omega⟩)
      (fun d => a d + (∑ c, V d c * min ((448 : ℝ) : EReal) (max 0 (P c))) * (W * s)) := by
  obtain rfl : T = fun c => cscore i x0 x2 x3 x4 col ⟨k, hk⟩ c := funext hT
  obtain ⟨h1, h2, h3⟩ := h
  obtain ⟨⟨μ, eM⟩, s2, s3⟩ := Softmax.step (s := s) (fun c => cscore_score i x0 x2 x3 x4 col ⟨k, hk⟩ c) h1
    (.inl ⟨0, cscore_zero_ne i x0 x2 x3 x4 col ⟨k, hk⟩ hn⟩) hM hP hW
  refine ⟨.inr ⟨μ, eM⟩, fun r => ?_, fun d => ?_⟩
  · dsimp only
    rw [h2, s2, sum_before_succ k hk, mul_add, EReal.coe_add]
  · dsimp only
    rw [h3, s3, sum_before_succ k hk, hs]
    unfold val vscale
    simp only [hV]

/-- After the first `k` key blocks the scratch buffers hold the weights of those blocks. -/
theorem inv_stateAt (col : Fin 1024) : ∀ k, k ≤ (gn i).val →
    Inv i x0 x1 x2 x3 x4 x5 col k ((stateAt i (q16 x2) (qs x3) x0 x1 x4 x5 k).1 (ix2 0 col))
      (fun r => (stateAt i (q16 x2) (qs x3) x0 x1 x4 x5 k).2.1 (ix2 r col)) (fun d => (stateAt i (q16 x2) (qs x3) x0 x1 x4 x5 k).2.2 (ix2 d col))
  | 0, _ => by
    refine ⟨.inl (pay18_apply col), fun r => (pay19_apply r col).trans ?_, fun d => (pay20_apply d col).trans ?_⟩ <;>
      simp [before]
  | k + 1, h => by
    have ih := inv_stateAt col k (by omega)
    have hn := (gn i).isLt
    have ht : k < (k0_t1_loop i).trips := by rw [trips_eq]; omega
    have hk : k < 128 := by omega
    rw [stateAt, dif_pos ht]
    generalize stateAt i (q16 x2) (qs x3) x0 x1 x4 x5 k = st at ih ⊢
    have hs := Inv.step i x0 x1 x2 x3 x4 x5 ih hk (by omega) (T := fun c => k0_pay2 (q16 x2) (qs x3) (keyBlk i x4 ⟨k, ht⟩) (sclBlk i x0 ⟨k, ht⟩) (ix2 c col))
      (fun c => below_apply i x0 x2 x3 x4 ⟨k, ht⟩ hk c col)
      (pay3_apply _ _ _ _ _ col) (fun c => pay6_apply _ _ _ _ _ c col) (pay7_apply _ _ _ _ _ col)
      (V := fun d c => valBlk i x5 ⟨k, ht⟩ (ix5 0 0 0 d c)) (fun d c => val_apply i x5 ⟨k, ht⟩ hk d c) (scl_apply i x1 ⟨k, ht⟩ hk)
    unfold stepAt
    dsimp only
    rw [pay4_apply]
    simp only [pay8_apply, pay21_apply]
    exact hs

/-- The quotient block at a (channel, column): the quotient over the key blocks up to the diagonal. -/
theorem quot_apply (d : Fin 128) (col : Fin 1024) :
    quot i x0 x1 x2 x3 x4 x5 (ix2 d col)
      = quotient (before ((gn i).val + 1)) (cscore i x0 x2 x3 x4 col) (val x5 d) (vscale i x1) := by
  have ih := inv_stateAt i x0 x1 x2 x3 x4 x5 col (gn i).val le_rfl
  unfold quot lastState
  rw [trips_eq, pay35_apply]
  generalize stateAt i (q16 x2) (qs x3) x0 x1 x4 x5 (gn i).val = st at ih ⊢
  have eV : ∀ d c : Fin 128, View.ld x5 (Rect.unit (k0_off9 i) S1x1x1x128x128.size (k0_off9_inb i)) (ix5 0 0 0 d c) = x5 (ix5 0 (gn i) 0 d c) := fun d c => by
    refine View.ld_unit_apply_of _ _ _ _ _ _ fun a => ?_
    refine Eq.trans ?_ (congrArg (· + _) (congrFun (k0_off9_eq i) a).symm)
    fin_cases a <;> simp [ix5, gn]
  have eS : View.ld x1 (Rect.unit (k0_off8 i) S1x1x1.size (k0_off8_inb i)) (Shape.Idx.first (lt_of_lt_of_eq Nat.one_pos numel1_S1x1x1.symm))
      = x1 (ix3 (gb i) (gn i) (gh i)) := by
    refine View.ld_unit_apply_of _ _ _ _ _ _ fun a => ?_
    refine Eq.trans ?_ (congrArg (· + _) (congrFun (k0_off8_eq i) a).symm)
    fin_cases a <;> simp [ix3, gb, gn, gh, Shape.Idx.first]
  obtain ⟨-, hl, ha⟩ := Inv.step i x0 x1 x2 x3 x4 x5 ih (gn i).isLt le_rfl (T := fun c => maskT (diagT i (q16 x2) (qs x3) x0 x4) (ix2 c col))
    (fun c => diag_apply i x0 x2 x3 x4 c col) (diagM_apply _ _ col) (fun c => diagP_apply _ _ c col) (diagW_apply _ _ col)
    (V := fun d c => View.ld x5 (Rect.unit (k0_off9 i) S1x1x1x128x128.size (k0_off9_inb i)) (ix5 0 0 0 d c)) eV eS
  have eL : ∀ r : Fin 8, finalL i (q16 x2) (qs x3) x0 x4 st (ix2 r col) = _ := fun r => (pay32_apply _ _ _ r col).trans (hl r)
  have eA : finalA i (q16 x2) (qs x3) x0 x1 x4 x5 st (ix2 d col) = _ := (pay34_apply _ _ _ _ _ d col).trans (ha d)
  rw [eA, Finset.sum_congr rfl fun r _ => eL r]
  exact kernel_quotient _ _ _ _ (total_pos _ _ (fun j _ c => cscore_score i x0 x2 x3 x4 col j c) (j := gn i) (mem_before.mpr (Nat.lt_succ_self _))
    (cscore_zero_ne i x0 x2 x3 x4 col (gn i) le_rfl))
end
end Cert.KernelIdeal.Run
-- ==== Proof.Spec.lean ====
/-
  What both programs compute, as a function of the six argument arrays read at coordinates: batch `b`, query block `n` and
  row `r` in it, kv head `h`, query head `g` of the eight that share it, channel `d`; key block `j` and key `c` in it.
-/
module

public import proofs.«01_k».proof.Proof.Softmax

@[expose] public section
noncomputable section

namespace Cert.Spec
open Idealize.ShloMosaic Cert.Softmax

variable (q : Fin 4 → Fin 16384 → Fin 2048 → EReal) (qw : Fin 4 → Fin 128 → Fin 2048 → EReal)
variable (k : Fin 4 → Fin 16384 → Fin 256 → EReal) (ks : Fin 4 → Fin 128 → Fin 2 → EReal)
variable (vt : Fin 4 → Fin 128 → Fin 2 → Fin 128 → Fin 128 → EReal) (vs : Fin 4 → Fin 128 → Fin 2 → EReal)

/-- The product of query row and key, unscaled. -/
def dot (b : Fin 4) (h : Fin 2) (n : Fin 128) (g : Fin 8) (r : Fin 128) (j c : Fin 128) : EReal :=
  ∑ d : Fin 128, k b ⟨128 * j.val + c.val, by omega⟩ ⟨128 * h.val + d.val, by omega⟩
    * q b ⟨128 * n.val + r.val, by omega⟩ ⟨1024 * h.val + 128 * g.val + d.val, by omega⟩

/-- The score: the tangent of the product, scaled by the query's and the key block's scale, over the root of the head
    size and the cap. -/
def score (b : Fin 4) (h : Fin 2) (n : Fin 128) (g : Fin 8) (r : Fin 128) (j c : Fin 128) : EReal :=
  Ideal.tanh (dot q k b h n g r j c
    * (qw b n ⟨1024 * h.val + 128 * g.val + r.val, by omega⟩ * (((Real.sqrt 128)⁻¹ * (1 / 50) : ℝ) : EReal) * ks b j h))

/-- The causal score: `⊥` for a key after the query's position. -/
def cscore (b : Fin 4) (h : Fin 2) (n : Fin 128) (g : Fin 8) (r : Fin 128) (j c : Fin 128) : EReal :=
  if 128 * j.val + c.val ≤ 128 * n.val + r.val then score q qw k ks b h n g r j c else ⊥

/-- The attention output: the quotient over all key blocks. -/
def out (b : Fin 4) (h : Fin 2) (n : Fin 128) (g : Fin 8) (r d : Fin 128) : EReal :=
  quotient Finset.univ (cscore q qw k ks b h n g r) (fun j c => vt b j h d c) (fun j => vs b j h)

theorem cscore_score (b : Fin 4) (h : Fin 2) (n : Fin 128) (g : Fin 8) (r : Fin 128) (j c : Fin 128) :
    Score (cscore q qw k ks b h n g r j c) := by
  unfold cscore
  split_ifs
  · exact .inr (score_tanh _)
  · exact .inl rfl

/-- The first key is never masked. -/
theorem cscore_zero_ne (b : Fin 4) (h : Fin 2) (n : Fin 128) (g : Fin 8) (r : Fin 128) : cscore q qw k ks b h n g r 0 0 ≠ ⊥ := by
  unfold cscore score
  rw [if_pos (by have : (0 : Fin 128).val = 0 := rfl; omega)]
  generalize dot q k b h n g r 0 0 * _ = x
  obtain ⟨y, e⟩ := score_tanh x
  rw [e]
  exact EReal.coe_ne_bot y

/-- Key blocks after the query's own contribute nothing. -/
theorem quotient_subset (S : Finset (Fin 128)) (t v : Fin 128 → Fin 128 → EReal) (s : Fin 128 → EReal)
    (h : ∀ j, j ∉ S → ∀ c, t j c = ⊥) : quotient S t v s = quotient Finset.univ t v s := by
  unfold quotient
  congr 1
  · refine Finset.sum_subset (Finset.subset_univ _) fun j _ hj => ?_
    simp [h j hj]
  · congr 1
    refine Finset.sum_subset (Finset.subset_univ _) fun j _ hj => ?_
    simp [h j hj]

end Cert.Spec
-- ==== Proof.KernelValue.lean ====
/-
  The kernel's result array: the output block of a grid point read at an index, the input blocks as reads of the argument
  arrays, and the array after the run, which the blocks tile.
-/
module

public import proofs.«01_k».proof.Proof.BlockValue
public import proofs.«01_k».proof.Proof.Spec
public import Idealize.ShloMosaic.Lib.Pipeline.ValueKit
public import Idealize.ShloMosaic.Lib.Pipeline.Covers

@[expose] public section
noncomputable section

namespace Cert.KernelIdeal.Run
open Cert.KernelIdeal Cert.KernelIdeal.Gen
open Idealize.ShloMosaic Idealize.ShloMosaic.TcCoe
open Cert.Softmax

section
variable (Q : FVec Ideal S128x1024 .f32) (A : Vec Ideal S128x1024 .f32) (L : Vec Ideal S8x1024 .f32) (r d : Fin 128)

/-! ### One head's stores: the head's 128 columns, transposed. -/

theorem head0 : k0_pay36 A L (ix3 0 r d) = k0_pay35 A L (ix2 d ⟨0 + r.val, by omega⟩) := by
  unfold k0_pay36
  generalize k0_pay35 A L = Q
  pointwise
theorem head1 : k0_pay38 (k0_pay37 A L) (ix3 0 r d) = k0_pay35 A L (ix2 d ⟨128 + r.val, by omega⟩) := by
  unfold k0_pay38 k0_pay37
  generalize k0_pay35 A L = Q
  pointwise
theorem head2 : k0_pay39 Q (ix3 0 r d) = Q (ix2 d ⟨256 + r.val, by omega⟩) := by
  unfold k0_pay39
  pointwise
theorem head3 : k0_pay40 Q (ix3 0 r d) = Q (ix2 d ⟨384 + r.val, by omega⟩) := by
  unfold k0_pay40
  pointwise
theorem head4 : k0_pay41 Q (ix3 0 r d) = Q (ix2 d ⟨512 + r.val, by omega⟩) := by
  unfold k0_pay41
  pointwise
theorem head5 : k0_pay42 Q (ix3 0 r d) = Q (ix2 d ⟨640 + r.val, by omega⟩) := by
  unfold k0_pay42
  pointwise
theorem head6 : k0_pay43 Q (ix3 0 r d) = Q (ix2 d ⟨768 + r.val, by omega⟩) := by
  unfold k0_pay43
  pointwise
theorem head7 : k0_pay1 (k0_pay44 Q) (ix3 0 r d) = Q (ix2 d ⟨896 + r.val, by omega⟩) := by
  unfold k0_pay1 k0_pay44
  pointwise
end

section
variable (c : Dev nD) (i : grid0.Coords)
variable (arg3 : Memref sig .tc .smem S4x128x2 .f32) (harg3 : arg3.IsWhole)
variable (arg4 : Memref sig .tc .smem S4x128x2 .f32) (harg4 : arg4.IsWhole)
variable (arg5 : Memref sig .tc .vmem S1x128x1024 .fp8e4m3) (harg5 : arg5.IsWhole)
variable (arg6 : Memref sig .tc .vmem S1x1x1x1024 .f32) (harg6 : arg6.IsWhole)
variable (arg7 : Memref sig .tc .vmem S1x16384x128 .fp8e4m3) (harg7 : arg7.IsWhole)
variable (arg8 : Memref sig .tc .vmem S1x128x1x128x128 .fp8e4m3) (harg8 : arg8.IsWhole)
variable (arg9 : Memref sig .tc .vmem S1x128x1024 .bf16) (harg9 : arg9.IsWhole)
variable (arg10 : Memref sig .tc .vmem S1x1024 .f32) (harg10 : arg10.IsWhole)
variable (arg11 : Memref sig .tc .vmem S8x1024 .f32) (harg11 : arg11.IsWhole)
variable (arg12 : Memref sig .tc .vmem S128x1024 .f32) (harg12 : arg12.IsWhole)
variable (x0 x1 : Vec Ideal S4x128x2 .f32) (x2 : Vec Ideal S1x128x1024 .fp8e4m3) (x3 : Vec Ideal S1x1x1x1024 .f32)
variable (x4 : Vec Ideal S1x16384x128 .fp8e4m3) (x5 : Vec Ideal S1x128x1x128x128 .fp8e4m3)

/-- A head's store, where it holds `y`. -/
theorem tile_of (Q : FVec Ideal S128x1024 .f32) (y : S1x128x1024.Idx) (o : ℕ) (w : FVec Ideal S1x128x128 .bf16) (ho : o + 128 ≤ 1024) (h128 : 128 ∣ o)
    (hw : ∀ r d : Fin 128, w (ix3 0 r d) = Q (ix2 d ⟨o + r.val, by omega⟩)) :
    View.TileAt (Val := Elt Ideal) (e := .bf16) y ![0, 0, o] S1x128x128.size w
      (Q (ix2 ⟨(y 2).val % 128, Nat.mod_lt _ (by norm_num)⟩ ⟨128 * ((y 2).val / 128) + (y 1).val, by
        have h1 : (y 1).val < 128 := (y 1).isLt
        have h2 : (y 2).val < 1024 := (y 2).isLt
        omega⟩)) := by
  intro x hx
  have h1 : (y 1).val = 0 + (x 1).val := hx 1
  have h2 : (y 2).val = o + (x 2).val := hx 2
  have l0 : (x 0).val < 1 := (x 0).isLt
  have l1 : (x 1).val < 128 := (x 1).isLt
  have l2 : (x 2).val < 128 := (x 2).isLt
  have ex : x = ix3 0 ⟨(x 1).val, l1⟩ ⟨(x 2).val, l2⟩ := by
    funext a
    fin_cases a
    · exact Fin.ext (by show (x 0).val = 0; omega)
    · rfl
    · rfl
  obtain ⟨q, rfl⟩ := h128
  rw [ex, hw]
  exact congrArg Q (congrArg₂ ix2 (Fin.ext (by dsimp only; omega)) (Fin.ext (by dsimp only; omega)))

/-- The output block of a grid point, read at an index. -/
theorem block_apply (y : S1x128x1024.Idx) :
    out0_A_6 (F := Ideal) c i arg3 harg3 arg4 harg4 arg5 harg5 arg6 harg6 arg7 harg7 arg8 harg8 arg9 harg9 arg10 harg10 arg11 harg11 arg12 harg12 x0 x1 x2 x3 x4 x5 y
      = quot i x0 x1 x2 x3 x4 x5 (ix2 ⟨(y 2).val % 128, Nat.mod_lt _ (by norm_num)⟩ ⟨128 * ((y 2).val / 128) + (y 1).val, by
        have h1 : (y 1).val < 128 := (y 1).isLt
        have h2 : (y 2).val < 1024 := (y 2).isLt
        omega⟩) := by
  unfold out0_A_6
  have hc := cover0_A_6 (F := Ideal) c i arg3 harg3 arg4 harg4 arg5 harg5 arg6 harg6 arg7 harg7 arg8 harg8 arg9 harg9 arg10 harg10 arg11 harg11 arg12 harg12 x0 x1 x2 x3 x4 x5
  rw [View.read_writes_eq_canon _ _ _ hc]
  refine View.canon_eq_of_allAt _ y _ (hc y) ?_
  rw [run_pieces]
  refine View.allAt_cons_unit _ _ _ _ _ (tile_of _ y 896 _ (by norm_num) (by norm_num) (head7 _)) ?_
  refine View.allAt_cons_unit _ _ _ _ _ (tile_of _ y 768 _ (by norm_num) (by norm_num) (head6 _)) ?_
  refine View.allAt_cons_unit _ _ _ _ _ (tile_of _ y 640 _ (by norm_num) (by norm_num) (head5 _)) ?_
  refine View.allAt_cons_unit _ _ _ _ _ (tile_of _ y 512 _ (by norm_num) (by norm_num) (head4 _)) ?_
  refine View.allAt_cons_unit _ _ _ _ _ (tile_of _ y 384 _ (by norm_num) (by norm_num) (head3 _)) ?_
  refine View.allAt_cons_unit _ _ _ _ _ (tile_of _ y 256 _ (by norm_num) (by norm_num) (head2 _)) ?_
  refine View.allAt_cons_unit _ _ _ _ _ (tile_of _ y 128 _ (by norm_num) (by norm_num) (head1 _ _)) ?_
  refine View.allAt_cons_unit _ _ _ _ _ (tile_of _ y 0 _ (by norm_num) (by norm_num) (head0 _ _)) ?_
  exact View.allAt_nil _ _
end

/-! ### The array -/

section
variable (m : (ℓ : Loc nD τ sig) → Buf (Elt Ideal) ℓ) (c : Dev nD)

/-- The argument arrays, at coordinates. -/
def argQ (b : Fin 4) (s : Fin 16384) (ch : Fin 2048) : EReal := (m ((c : Thread nD τ).loc main_arg0) : S4x16384x2048.Idx → EReal) (ix3 b s ch)
def argQW (b : Fin 4) (n : Fin 128) (ch : Fin 2048) : EReal := (m ((c : Thread nD τ).loc main_arg1) : S4x128x1x2048.Idx → EReal) (ix4 b n 0 ch)
def argK (b : Fin 4) (s : Fin 16384) (ch : Fin 256) : EReal := (m ((c : Thread nD τ).loc main_arg2) : S4x16384x256.Idx → EReal) (ix3 b s ch)
def argKS (b : Fin 4) (n : Fin 128) (h : Fin 2) : EReal := (m ((c : Thread nD τ).loc main_arg3) : S4x128x2.Idx → EReal) (ix3 b n h)
def argVT (b : Fin 4) (n : Fin 128) (h : Fin 2) (d r : Fin 128) : EReal := (m ((c : Thread nD τ).loc main_arg4) : S4x128x2x128x128.Idx → EReal) (ix5 b n h d r)
def argVS (b : Fin 4) (n : Fin 128) (h : Fin 2) : EReal := (m ((c : Thread nD τ).loc main_arg5) : S4x128x2.Idx → EReal) (ix3 b n h)

/-- What the kernel's result array holds at an index. -/
def result (I : S4x16384x2048.Idx) : EReal :=
  Spec.out (argQ m c) (argQW m c) (argK m c) (argKS m c) (argVT m c) (argVS m c) ⟨(I 0).val, (I 0).isLt⟩
    ⟨(I 2).val / 1024, by have h : (I 2).val < 2048 := (I 2).isLt; omega⟩ ⟨(I 1).val / 128, by have h : (I 1).val < 16384 := (I 1).isLt; omega⟩
    ⟨(I 2).val % 1024 / 128, by omega⟩ ⟨(I 1).val % 128, by omega⟩ ⟨(I 2).val % 128, by omega⟩

/-- A grid coordinate's word is the coordinate. -/
theorem toNat_of {n : ℕ} (x : Fin n) (h : n ≤ 2 ^ 32) : (BitVec.ofNat 32 x.val).toNat = x.val := by
  rw [BitVec.toNat_ofNat]
  exact Nat.mod_eq_of_lt (lt_of_lt_of_le x.isLt h)

theorem index0 (t : Fin cfg0.N) : win0_0.index t = ![0, 0, 0] := rfl
theorem index1 (t : Fin cfg0.N) : win0_1.index t = ![0, 0, 0] := rfl
theorem index2 (t : Fin cfg0.N) : win0_2.index t = ![(gb (grid0.coords t)).val, (gn (grid0.coords t)).val, (gh (grid0.coords t)).val] := by
  have h0 : (BitVec.ofNat 32 (grid0.coords t 0).val).toNat = (gb (grid0.coords t)).val := toNat_of (gb (grid0.coords t)) (by norm_num)
  have h1 : (BitVec.ofNat 32 (grid0.coords t 1).val).toNat = (gh (grid0.coords t)).val := toNat_of (gh (grid0.coords t)) (by norm_num)
  have h2 : (BitVec.ofNat 32 (grid0.coords t 2).val).toNat = (gn (grid0.coords t)).val := toNat_of (gn (grid0.coords t)) (by norm_num)
  show cc0_transform_2 (grid0.coords t) = _
  unfold cc0_transform_2
  dsimp only
  rw [h0, h1, h2]
  try rfl
theorem index3 (t : Fin cfg0.N) : win0_3.index t = ![(gb (grid0.coords t)).val, (gn (grid0.coords t)).val, 0, (gh (grid0.coords t)).val] := by
  have h0 : (BitVec.ofNat 32 (grid0.coords t 0).val).toNat = (gb (grid0.coords t)).val := toNat_of (gb (grid0.coords t)) (by norm_num)
  have h1 : (BitVec.ofNat 32 (grid0.coords t 1).val).toNat = (gh (grid0.coords t)).val := toNat_of (gh (grid0.coords t)) (by norm_num)
  have h2 : (BitVec.ofNat 32 (grid0.coords t 2).val).toNat = (gn (grid0.coords t)).val := toNat_of (gn (grid0.coords t)) (by norm_num)
  show cc0_transform_3 (grid0.coords t) = _
  unfold cc0_transform_3
  dsimp only
  rw [h0, h1, h2]
  try rfl
theorem index4 (t : Fin cfg0.N) : win0_4.index t = ![(gb (grid0.coords t)).val, 0, (gh (grid0.coords t)).val] := by
  have h0 : (BitVec.ofNat 32 (grid0.coords t 0).val).toNat = (gb (grid0.coords t)).val := toNat_of (gb (grid0.coords t)) (by norm_num)
  have h1 : (BitVec.ofNat 32 (grid0.coords t 1).val).toNat = (gh (grid0.coords t)).val := toNat_of (gh (grid0.coords t)) (by norm_num)
  have h2 : (BitVec.ofNat 32 (grid0.coords t 2).val).toNat = (gn (grid0.coords t)).val := toNat_of (gn (grid0.coords t)) (by norm_num)
  show cc0_transform_4 (grid0.coords t) = _
  unfold cc0_transform_4
  dsimp only
  rw [h0, h1]
  try rfl
theorem index5 (t : Fin cfg0.N) : win0_5.index t = ![(gb (grid0.coords t)).val, 0, (gh (grid0.coords t)).val, 0, 0] := by
  have h0 : (BitVec.ofNat 32 (grid0.coords t 0).val).toNat = (gb (grid0.coords t)).val := toNat_of (gb (grid0.coords t)) (by norm_num)
  have h1 : (BitVec.ofNat 32 (grid0.coords t 1).val).toNat = (gh (grid0.coords t)).val := toNat_of (gh (grid0.coords t)) (by norm_num)
  have h2 : (BitVec.ofNat 32 (grid0.coords t 2).val).toNat = (gn (grid0.coords t)).val := toNat_of (gn (grid0.coords t)) (by norm_num)
  show cc0_transform_5 (grid0.coords t) = _
  unfold cc0_transform_5
  dsimp only
  rw [h0, h1]
  try rfl
theorem index6 (t : Fin cfg0.N) : win0_6.index t = ![(gb (grid0.coords t)).val, (gn (grid0.coords t)).val, (gh (grid0.coords t)).val] := by
  have h0 : (BitVec.ofNat 32 (grid0.coords t 0).val).toNat = (gb (grid0.coords t)).val := toNat_of (gb (grid0.coords t)) (by norm_num)
  have h1 : (BitVec.ofNat 32 (grid0.coords t 1).val).toNat = (gh (grid0.coords t)).val := toNat_of (gh (grid0.coords t)) (by norm_num)
  have h2 : (BitVec.ofNat 32 (grid0.coords t 2).val).toNat = (gn (grid0.coords t)).val := toNat_of (gn (grid0.coords t)) (by norm_num)
  show cc0_transform_6 (grid0.coords t) = _
  unfold cc0_transform_6
  dsimp only
  rw [h0, h1, h2]
  try rfl

/-! The input blocks, as reads of the argument arrays. -/

theorem iblk0 (t : Fin cfg0.N) (b : Fin 4) (n : Fin 128) (h : Fin 2) : iblk m c 0 t (ix3 b n h) = argKS m c b n h := by
  refine congrArg (m ((c : Thread nD τ).loc main_arg3)) (funext fun a => Fin.ext ?_)
  fin_cases a <;> blk_simp [index0] <;> simp [ix3, ix4, ix5] <;> omega
theorem iblk1 (t : Fin cfg0.N) (b : Fin 4) (n : Fin 128) (h : Fin 2) : iblk m c 1 t (ix3 b n h) = argVS m c b n h := by
  refine congrArg (m ((c : Thread nD τ).loc main_arg5)) (funext fun a => Fin.ext ?_)
  fin_cases a <;> blk_simp [index1] <;> simp [ix3, ix4, ix5] <;> omega
theorem iblk2 (t : Fin cfg0.N) (r : Fin 128) (ch : Fin 1024) : iblk m c 2 t (ix3 0 r ch) = argQ m c (gb (grid0.coords t)) ⟨128 * (gn (grid0.coords t)).val + r.val, by omega⟩ ⟨1024 * (gh (grid0.coords t)).val + ch.val, by omega⟩ := by
  refine congrArg (m ((c : Thread nD τ).loc main_arg0)) (funext fun a => Fin.ext ?_)
  fin_cases a <;> blk_simp [index2] <;> simp [ix3, ix4, ix5] <;> omega
theorem iblk3 (t : Fin cfg0.N) (ch : Fin 1024) : iblk m c 3 t (ix4 0 0 0 ch) = argQW m c (gb (grid0.coords t)) (gn (grid0.coords t)) ⟨1024 * (gh (grid0.coords t)).val + ch.val, by omega⟩ := by
  refine congrArg (m ((c : Thread nD τ).loc main_arg1)) (funext fun a => Fin.ext ?_)
  fin_cases a <;> blk_simp [index3] <;> simp [ix3, ix4, ix5] <;> omega
theorem iblk4 (t : Fin cfg0.N) (s : Fin 16384) (d : Fin 128) : iblk m c 4 t (ix3 0 s d) = argK m c (gb (grid0.coords t)) s ⟨128 * (gh (grid0.coords t)).val + d.val, by omega⟩ := by
  refine congrArg (m ((c : Thread nD τ).loc main_arg2)) (funext fun a => Fin.ext ?_)
  fin_cases a <;> blk_simp [index4] <;> simp [ix3, ix4, ix5] <;> omega
theorem iblk5 (t : Fin cfg0.N) (j d e : Fin 128) : iblk m c 5 t (ix5 0 j 0 d e) = argVT m c (gb (grid0.coords t)) j (gh (grid0.coords t)) d e := by
  refine congrArg (m ((c : Thread nD τ).loc main_arg4)) (funext fun a => Fin.ext ?_)
  fin_cases a <;> blk_simp [index5] <;> simp [ix3, ix4, ix5] <;> omega

theorem covers6 : (cfg0.win 6).Covers :=
  (cfg0.win 6).covers_of_indexMap_surj rfl (by decide) fun β => ⟨fun | 0 => ⟨(β 0).val, (β 0).isLt⟩ | 1 => ⟨(β 2).val, (β 2).isLt⟩ | 2 => ⟨(β 1).val, (β 1).isLt⟩ | ⟨_ + 3, h⟩ => absurd h (Nat.not_lt.2 (Nat.le_add_left _ _)), fun a => by
    have h0 : (β 0).val < 4 := (β 0).isLt
    have h1 : (β 1).val < 128 := (β 1).isLt
    have h2 : (β 2).val < 2 := (β 2).isLt
    fin_cases a
    · exact (BitVec.toNat_ofNat _ 32).trans (Nat.mod_eq_of_lt (by show (β 0).val < 2 ^ 32; omega))
    · exact (BitVec.toNat_ofNat _ 32).trans (Nat.mod_eq_of_lt (by show (β 1).val < 2 ^ 32; omega))
    · exact (BitVec.toNat_ofNat _ 32).trans (Nat.mod_eq_of_lt (by show (β 2).val < 2 ^ 32; omega))⟩

/-- The block's quotient at (channel, head, row): the attention output. -/
theorem quot_out (t : Fin cfg0.N) (g : Fin 8) (r d : Fin 128) :
    quot (F := Ideal) (grid0.coords t) (iblk m c 0 t) (iblk m c 1 t) (iblk m c 2 t) (iblk m c 3 t) (iblk m c 4 t) (iblk m c 5 t) (ix2 d ⟨128 * g.val + r.val, by omega⟩)
      = Spec.out (argQ m c) (argQW m c) (argK m c) (argKS m c) (argVT m c) (argVS m c) (gb (grid0.coords t)) (gh (grid0.coords t)) (gn (grid0.coords t)) g r d := by
  have eg : (128 * g.val + r.val) / 128 = g.val := by omega
  have er : (128 * g.val + r.val) % 128 = r.val := by omega
  have et : cscore (grid0.coords t) (iblk m c 0 t) (iblk m c 2 t) (iblk m c 3 t) (iblk m c 4 t) ⟨128 * g.val + r.val, by omega⟩
      = Spec.cscore (argQ m c) (argQW m c) (argK m c) (argKS m c) (gb (grid0.coords t)) (gh (grid0.coords t)) (gn (grid0.coords t)) g r := by
    funext j e
    unfold cscore Spec.cscore
    dsimp only
    rw [er]
    refine if_congr Iff.rfl ?_ rfl
    unfold score Spec.score Spec.dot
    rw [iblk0, iblk3]
    congr 1
    congr 1
    · refine Finset.sum_congr rfl fun d' _ => ?_
      rw [iblk4, iblk2]
      exact congrArg _ (congrArg₂ (argQ m c _) (Fin.ext (by dsimp only; omega)) (Fin.ext (by dsimp only; omega)))
    · congr 2
      exact congrArg (argQW m c _ _) (Fin.ext (by dsimp only; omega))
  have ev : val (iblk m c 5 t) d = fun j e => argVT m c (gb (grid0.coords t)) j (gh (grid0.coords t)) d e := by
    funext j e
    unfold val
    rw [iblk5]
  have es : vscale (grid0.coords t) (iblk m c 1 t) = fun j => argVS m c (gb (grid0.coords t)) j (gh (grid0.coords t)) := by
    funext j
    unfold vscale
    rw [iblk1]
  rw [quot_apply, et, ev, es]
  unfold Spec.out
  refine Spec.quotient_subset _ _ _ _ fun j hj e => ?_
  rw [mem_before] at hj
  unfold Spec.cscore
  rw [if_neg (by omega)]

/-- The result at an index whose coordinates are those of batch, query block and row, head and channel. -/
theorem result_of (I : S4x16384x2048.Idx) (b : Fin 4) (h : Fin 2) (n : Fin 128) (g : Fin 8) (r d : Fin 128) (h0 : (I 0).val = b.val)
    (h1 : (I 1).val = 128 * n.val + r.val) (h2 : (I 2).val = 1024 * h.val + 128 * g.val + d.val) :
    result m c I = Spec.out (argQ m c) (argQW m c) (argK m c) (argKS m c) (argVT m c) (argVS m c) b h n g r d := by
  unfold result
  congr 1 <;> exact Fin.ext (by dsimp only; omega)

/-- The kernel's result array after the run. -/
theorem array_eq : (dats m 0 c).arrAt 6 cfg0.N = result m c := by
  refine (dats m 0 c).arrAt_eq_of_covers 6 _ covers6 fun t hf y => ?_
  rw [after0_6]
  unfold outsAt0
  blk_simp
  have y1 : (y 1).val < 128 := (y 1).isLt
  have y2 : (y 2).val < 1024 := (y 2).isLt
  have y0 : (y 0).val < 1 := (y 0).isLt
  have e0 : ((win0_6.blk t).view.emb y 0).val = (gb (grid0.coords t)).val := by blk_simp [index6]
  have e1 : ((win0_6.blk t).view.emb y 1).val = (gn (grid0.coords t)).val * 128 + (y 1).val := by blk_simp [index6]
  have e2 : ((win0_6.blk t).view.emb y 2).val = (gh (grid0.coords t)).val * 1024 + (y 2).val := by blk_simp [index6]
  have hq := quot_out m c t ⟨(y 2).val / 128, by omega⟩ ⟨(y 1).val, y1⟩ ⟨(y 2).val % 128, by omega⟩
  refine (block_apply c _ _ _ _ _ _ _ _ _ _ _ _ _ _ _ _ _ _ _ _ _ _ _ _ _ _ _ y).trans (hq.trans ?_)
  have hh := (gh (grid0.coords t)).isLt
  have hn := (gn (grid0.coords t)).isLt
  exact (result_of m c _ _ _ _ _ _ _ e0 (e1.trans (by dsimp only; omega)) (e2.trans (by dsimp only; omega))).symm
end

end Cert.KernelIdeal.Run
-- ==== Proof.RefHost.lean ====
/-
  The reference's host operations after its widening kernel, as functions of the three widened arrays and the three scale
  arrays, cut at the scores, the logits, the probabilities, their codes and the weighted sums; and the read of the result
  buffer after those operations.
-/
module

public import proofs.«01_k».proof.Proof.Gen.ReferenceIdeal.Frame
public import Idealize.ShloMosaic.Lib.StableHlo.RunRead
public import Idealize.ShloMosaic.Lib.Claim
public import proofs.«01_k».proof.Proof.Consts

@[expose] public section
noncomputable section

namespace Cert.ReferenceIdeal.Ref
open Cert.ReferenceIdeal Cert.ReferenceIdeal.Gen
open Idealize.ShloMosaic Idealize.ShloMosaic.TcCoe

/-- The products of query rows and keys. -/
def prod (Q : FVec Ideal S4x16384x2048 .f32) (K : FVec Ideal S4x16384x256 .f32) : FVec Ideal S4x2x128x128x8x128x128 .f32 :=
  Host.dotGeneral dot_S4x128x128x2x8x128_S4x128x128x2x128_S4x2x128x128x8x128x128_5_4_124_12_03_03 none
    (shapeCast S4x128x128x2x8x128 Q shapeCasts_S4x16384x2048_S4x128x128x2x8x128)
    (shapeCast S4x128x128x2x128 K shapeCasts_S4x16384x256_S4x128x128x2x128)

/-- The scales of the products. -/
def scale (QW : FVec Ideal S4x128x1x2048 .f32) (KS : FVec Ideal S4x128x2 .f32) : FVec Ideal S4x2x128x128x8x128 .f32 :=
  Host.divf (mulf
      (broadcastInDim S4x2x128x128x8x128 ![0, 1, 2, 3, 4, 5] bcast_S4x2x128x128x8x1_S4x2x128x128x8x128_0_1_2_3_4_5
        (broadcastInDim S4x2x128x128x8x1 ![0, 1, 2, 3, 4] bcast_S4x2x128x128x8_S4x2x128x128x8x1_0_1_2_3_4
          (transpose S4x2x128x128x8 [0, 2, 1, 4, 3] (shapeCast S4x128x2x8x128 QW shapeCasts_S4x128x1x2048_S4x128x2x8x128) transposes_S4x128x2x8x128_S4x2x128x128x8_0_2_1_4_3)))
      (broadcastInDim S4x2x128x128x8x128 ![0, 1, 2, 3, 4, 5] bcast_S4x2x1x1x1x128_S4x2x128x128x8x128_0_1_2_3_4_5
        (broadcastInDim S4x2x1x1x1x128 ![0, 1, 5] bcast_S4x2x128_S4x2x1x1x1x128_0_1_5
          (transpose S4x2x128 [0, 2, 1] KS transposes_S4x128x2_S4x2x128_0_2_1))))
    (broadcastInDim S4x2x128x128x8x128 ![] bcast_S_S4x2x128x128x8x128 (Host.sqrt (constant S_ .f32 0x43000000#32)))

/-- The tangents of the scaled products over the cap. -/
def score (X : FVec Ideal S4x2x128x128x8x128x128 .f32) (S : FVec Ideal S4x2x128x128x8x128 .f32) : FVec Ideal S4x2x128x128x8x128x128 .f32 :=
  Host.tanh (Host.divf (mulf X
      (broadcastInDim S4x2x128x128x8x128x128 ![0, 1, 2, 3, 4, 5, 6] bcast_S4x2x128x128x8x128x1_S4x2x128x128x8x128x128_0_1_2_3_4_5_6
        (broadcastInDim S4x2x128x128x8x128x1 ![0, 1, 2, 3, 4, 5] bcast_S4x2x128x128x8x128_S4x2x128x128x8x128x1_0_1_2_3_4_5 S)))
    (broadcastInDim S4x2x128x128x8x128x128 ![] bcast_S_S4x2x128x128x8x128x128 (constant S_ .f32 0x42480000#32)))

/-- Which keys come no later than the query. -/
def mask : IVec S128x128x1x128x128 1 :=
  cmpi .sle
    (broadcastInDim S128x128x1x128x128 ![0, 1, 2, 3, 4] bcast_S1x1x1x128x128_S128x128x1x128x128_0_1_2_3_4
      (broadcastInDim S1x1x1x128x128 ![3, 4] bcast_S128x128_S1x1x1x128x128_3_4 (shapeCast S128x128 (iotaInDim S16384 32 0) shapeCasts_S16384_S128x128)))
    (broadcastInDim S128x128x1x128x128 ![0, 1, 2, 3, 4] bcast_S128x128x1x1x1_S128x128x1x128x128_0_1_2_3_4
      (broadcastInDim S128x128x1x1x1 ![0, 1] bcast_S128x128_S128x128x1x1x1_0_1 (shapeCast S128x128 (iotaInDim S16384 32 0) shapeCasts_S16384_S128x128)))

/-- The capped causal logits. -/
def logits (T : FVec Ideal S4x2x128x128x8x128x128 .f32) : FVec Ideal S4x2x128x128x8x128x128 .f32 :=
  select (broadcastInDim S4x2x128x128x8x128x128 ![2, 3, 4, 5, 6] bcast_S128x128x1x128x128_S4x2x128x128x8x128x128_2_3_4_5_6 mask)
    (mulf (broadcastInDim S4x2x128x128x8x128x128 ![] bcast_S_S4x2x128x128x8x128x128 (constant S_ .f32 0x42480000#32)) T)
    (broadcastInDim S4x2x128x128x8x128x128 ![] bcast_S_S4x2x128x128x8x128x128 (constant S_ .f32 0xFF800000#32))

/-- The maximum logit of each query. -/
def top (L : FVec Ideal S4x2x128x128x8x128x128 .f32) : FVec Ideal S4x2x128x128x8 .f32 :=
  Host.reduce FloatOps.maximumf L (constant S_ .f32 0xFF800000#32) reducesTo_S4x2x128x128x8x128x128_S4x2x128x128x8_d5_6 h_S_

/-- The probabilities before normalisation. -/
def prob (L : FVec Ideal S4x2x128x128x8x128x128 .f32) (M : FVec Ideal S4x2x128x128x8 .f32) : FVec Ideal S4x2x128x128x8x128x128 .f32 :=
  Host.exp (subf L
    (broadcastInDim S4x2x128x128x8x128x128 ![0, 1, 2, 3, 4, 5, 6] bcast_S4x2x128x128x8x1x1_S4x2x128x128x8x128x128_0_1_2_3_4_5_6
      (broadcastInDim S4x2x128x128x8x1x1 ![0, 1, 2, 3, 4] bcast_S4x2x128x128x8_S4x2x128x128x8x1x1_0_1_2_3_4 M)))

/-- Their sum. -/
def total (P : FVec Ideal S4x2x128x128x8x128x128 .f32) : FVec Ideal S4x2x128x128x8 .f32 :=
  Host.reduceAdd P (constant S_ .f32 0x00000000#32) reducesTo_S4x2x128x128x8x128x128_S4x2x128x128x8_d5_6 h_S_

/-- Their codes. -/
def codes (P : FVec Ideal S4x2x128x128x8x128x128 .f32) : FVec Ideal S4x2x128x128x8x128x128 .f32 :=
  minimumf (broadcastInDim S4x2x128x128x8x128x128 ![] bcast_S_S4x2x128x128x8x128x128 (constant S_ .f32 0x43E00000#32))
    (maximumf (broadcastInDim S4x2x128x128x8x128x128 ![] bcast_S_S4x2x128x128x8x128x128 (constant S_ .f32 0x00000000#32))
      (mulf P (broadcastInDim S4x2x128x128x8x128x128 ![] bcast_S_S4x2x128x128x8x128x128 (constant S_ .f32 0x43800000#32))))

/-- The codes' products with the values, one per key block. -/
def weighted (C : FVec Ideal S4x2x128x128x8x128x128 .f32) (VT : FVec Ideal S4x128x2x128x128 .f32) : FVec Ideal S4x2x128x128x128x8x128 .f32 :=
  Host.dotGeneral dot_S4x2x128x128x8x128x128_S4x128x2x128x128_S4x2x128x128x128x8x128_6_4_234_3_015_021 none C VT

/-- Their sum over the key blocks, each scaled. -/
def acc (W : FVec Ideal S4x2x128x128x128x8x128 .f32) (VS : FVec Ideal S4x128x2 .f32) : FVec Ideal S4x2x128x128x8x128 .f32 :=
  Host.reduceAdd
    (mulf W
      (broadcastInDim S4x2x128x128x128x8x128 ![0, 1, 2, 3, 4, 5, 6] bcast_S4x2x128x1x1x1x1_S4x2x128x128x128x8x128_0_1_2_3_4_5_6
        (broadcastInDim S4x2x128x1x1x1x1 ![0, 1, 2] bcast_S4x2x128_S4x2x128x1x1x1x1_0_1_2
          (mulf (transpose S4x2x128 [0, 2, 1] VS transposes_S4x128x2_S4x2x128_0_2_1)
            (broadcastInDim S4x2x128 ![] bcast_S_S4x2x128 (constant S_ .f32 0x3B800000#32))))))
    (constant S_ .f32 0x00000000#32) reducesTo_S4x2x128x128x128x8x128_S4x2x128x128x8x128_d2 h_S_

/-- The normalised sums. -/
def norm (A : FVec Ideal S4x2x128x128x8x128 .f32) (L : FVec Ideal S4x2x128x128x8 .f32) : FVec Ideal S4x2x128x128x8x128 .f32 :=
  Host.divf A
    (broadcastInDim S4x2x128x128x8x128 ![0, 1, 2, 3, 4, 5] bcast_S4x2x128x128x8x1_S4x2x128x128x8x128_0_1_2_3_4_5
      (broadcastInDim S4x2x128x128x8x1 ![0, 1, 2, 3, 4] bcast_S4x2x128x128x8_S4x2x128x128x8x1_0_1_2_3_4 L))

/-- They laid out as the result. -/
def lay (O : FVec Ideal S4x2x128x128x8x128 .f32) : FVec Ideal S4x16384x2048 .bf16 :=
  truncf .bf16 (shapeCast S4x16384x2048
    (transpose S4x128x128x2x8x128 [0, 2, 3, 1, 4, 5] O transposes_S4x2x128x128x8x128_S4x128x128x2x8x128_0_2_3_1_4_5)
    shapeCasts_S4x128x128x2x8x128_S4x16384x2048) bitsLt_bf16_f32

/-- The probabilities of all queries. -/
def probs (Q : FVec Ideal S4x16384x2048 .f32) (QW : FVec Ideal S4x128x1x2048 .f32) (K : FVec Ideal S4x16384x256 .f32)
    (KS : FVec Ideal S4x128x2 .f32) : FVec Ideal S4x2x128x128x8x128x128 .f32 :=
  prob (logits (score (prod Q K) (scale QW KS))) (top (logits (score (prod Q K) (scale QW KS))))

/-- The reference's result. -/
def final (Q : FVec Ideal S4x16384x2048 .f32) (QW : FVec Ideal S4x128x1x2048 .f32) (K : FVec Ideal S4x16384x256 .f32)
    (KS : FVec Ideal S4x128x2 .f32) (VT : FVec Ideal S4x128x2x128x128 .f32) (VS : FVec Ideal S4x128x2 .f32) : FVec Ideal S4x16384x2048 .bf16 :=
  lay (norm (acc (weighted (codes (probs Q QW K KS)) VT) VS) (total (probs Q QW K KS)))

/-- What the result buffer holds after the host operations, from any contents. -/
theorem read_final (V : Valuation τ sig (Elt Ideal)) :
    StableHlo.after (List.flatten [hostOps1, hostOps1_1, hostOps1_2, hostOps1_3, hostOps1_4]) V (Proc.devRef .tc main_v53)
      = final (V (Proc.devRef .tc main_v0_0)) (V (Proc.devRef .tc main_arg1)) (V (Proc.devRef .tc main_v0_1))
          (V (Proc.devRef .tc main_arg3)) (V (Proc.devRef .tc main_v0_2)) (V (Proc.devRef .tc main_arg5)) := by
  simp only [hostOps1, hostOps1_1, hostOps1_2, hostOps1_3, hostOps1_4, List.flatten_cons, List.flatten_nil, List.append_nil, List.cons_append, List.nil_append]
  after_reads_simp
  rfl

end Cert.ReferenceIdeal.Ref
-- ==== Proof.RefValue.lean ====
/-
  The reference's host operations read at an index, and its result: at every index the quotient of Proof/Spec.lean over the
  six argument arrays.
-/
module

public import proofs.«01_k».proof.Proof.RefHost
public import proofs.«01_k».proof.Proof.Spec
public import Idealize.ShloMosaic.Lib.Pointwise

@[expose] public section
noncomputable section

namespace Cert.ReferenceIdeal.Ref
open Cert.ReferenceIdeal Cert.ReferenceIdeal.Gen
open Idealize.ShloMosaic Idealize.ShloMosaic.TcCoe

variable (Q : FVec Ideal S4x16384x2048 .f32) (QW : FVec Ideal S4x128x1x2048 .f32) (K : FVec Ideal S4x16384x256 .f32)
  (KS : FVec Ideal S4x128x2 .f32) (VT : FVec Ideal S4x128x2x128x128 .f32) (VS : FVec Ideal S4x128x2 .f32)
variable (X T L C P : FVec Ideal S4x2x128x128x8x128x128 .f32) (S : FVec Ideal S4x2x128x128x8x128 .f32) (M : FVec Ideal S4x2x128x128x8 .f32) (W : FVec Ideal S4x2x128x128x128x8x128 .f32)
variable (b : Fin 4) (h : Fin 2) (n : Fin 128) (g : Fin 8) (r d j c : Fin 128)

theorem prod_apply : prod Q K (ix7 b h n r g j c)
    = ∑ d : Fin 128, Q (ix3 b ⟨128 * n.val + r.val, by omega⟩ ⟨1024 * h.val + 128 * g.val + d.val, by omega⟩)
        * K (ix3 b ⟨128 * j.val + c.val, by omega⟩ ⟨128 * h.val + d.val, by omega⟩) := by
  unfold prod
  pointwise
  refine Finset.sum_congr rfl fun d _ => ?_
  exact congrArg₂ (· * ·) (congrArg Q (congrArg₂ (ix3 b) (Fin.ext (by dsimp only; omega)) (Fin.ext (by dsimp only; omega))))
    (congrArg K (congrArg₂ (ix3 b) (Fin.ext (by dsimp only; omega)) (Fin.ext (by dsimp only; omega))))

theorem scale_apply : scale QW KS (ix6 b h n r g j) = Ideal.div (QW (ix4 b n 0 ⟨1024 * h.val + 128 * g.val + r.val, by omega⟩) * KS (ix3 b j h))
    (Ideal.sqrt (Ideal.ofBits .f32 0x43000000#32)) := by
  unfold scale
  pointwise
  exact congrArg (fun x => Ideal.div (QW (ix4 b n 0 x) * _) _) (Fin.ext (by dsimp only; omega))

theorem score_apply : score X S (ix7 b h n r g j c) = Ideal.tanh (Ideal.div (X (ix7 b h n r g j c) * S (ix6 b h n r g j)) (Ideal.ofBits .f32 0x42480000#32)) := by
  unfold score
  pointwise

/-- Signed comparison of two positions. -/
theorem sle_eq (x y : ℕ) (hx : x < 16384) (hy : y < 16384) :
    IntOp.cmpi CmpIPredicate.sle (BitVec.ofNat 32 x) (BitVec.ofNat 32 y) = if x ≤ y then 1#1 else 0#1 := by
  have e : (BitVec.ofNat 32 x).sle (BitVec.ofNat 32 y) = decide (x ≤ y) := by
    rw [BitVec.sle_eq_decide, BitVec.toInt_ofNat', BitVec.toInt_ofNat']
    rw [decide_eq_decide]
    have e1 : ((x : ℤ)).bmod (2 ^ 32) = x := by rw [Int.bmod_eq_of_le] <;> omega
    have e2 : ((y : ℤ)).bmod (2 ^ 32) = y := by rw [Int.bmod_eq_of_le] <;> omega
    rw [e1, e2]
    omega
  by_cases hxy : x ≤ y
  · rw [if_pos hxy]; simp [IntOp.cmpi, e, hxy]
  · rw [if_neg hxy]; simp [IntOp.cmpi, e, hxy]

theorem mask_apply : mask (ix5 n r (0 : Fin 1) j c) = if 128 * j.val + c.val ≤ 128 * n.val + r.val then 1#1 else 0#1 := by
  unfold mask
  pointwise
  rw [sle_eq _ _ (by omega) (by omega)]
  exact if_congr (by omega) rfl rfl

theorem logits_apply : logits T (ix7 b h n r g j c)
    = if 128 * j.val + c.val ≤ 128 * n.val + r.val then ((50 : ℝ) : EReal) * T (ix7 b h n r g j c) else ⊥ := by
  unfold logits
  pointwise
  rw [mask_apply, Consts.ofBits_50, Consts.ofBits_neg_inf]
  by_cases h : 128 * j.val + c.val ≤ 128 * n.val + r.val
  · rw [if_pos h, if_pos h]; rfl
  · rw [if_neg h, if_neg h]; rfl

theorem prob_apply : prob L M (ix7 b h n r g j c) = Ideal.exp (L (ix7 b h n r g j c) - M (ix5 b h n r g)) := by
  unfold prob
  pointwise

theorem codes_apply : codes P (ix7 b h n r g j c)
    = min (Ideal.ofBits .f32 0x43E00000#32) (max (Ideal.ofBits .f32 0x00000000#32) (P (ix7 b h n r g j c) * Ideal.ofBits .f32 0x43800000#32)) := by
  unfold codes
  pointwise

theorem weighted_apply : weighted C VT (ix7 b h j n r g d) = ∑ c : Fin 128, C (ix7 b h n r g j c) * VT (ix5 b j h d c) := by
  unfold weighted
  pointwise

theorem norm_apply : norm S M (ix6 b h n r g d) = Ideal.div (S (ix6 b h n r g d)) (M (ix5 b h n r g)) := by
  unfold norm
  pointwise

theorem lay_apply : lay S (ix3 b ⟨128 * n.val + r.val, by omega⟩ ⟨1024 * h.val + 128 * g.val + d.val, by omega⟩) = S (ix6 b h n r g d) := by
  unfold lay
  pointwise

/-- The indices that agree with a query on its five axes. -/
theorem fiber56 (i : S4x2x128x128x8x128x128.Idx) :
    reducesTo_S4x2x128x128x8x128x128_S4x2x128x128x8_d5_6.drop i = ix5 b h n r g ↔ ∃ k : Fin 128 × Fin 128, ix7 b h n r g k.1 k.2 = i := by
  constructor
  · intro e
    refine ⟨(i 5, i 6), ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
    | ⟨6, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

/-- The indices that agree with a result on every axis but the key block's. -/
theorem fiber2 (i : S4x2x128x128x128x8x128.Idx) :
    reducesTo_S4x2x128x128x128x8x128_S4x2x128x128x8x128_d2.drop i = ix6 b h n r g d ↔ ∃ k : Fin 128, ix7 b h k n r g d = i := by
  constructor
  · intro e
    refine ⟨i 2, ?_⟩
    funext a
    apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => exact (congrArg Fin.val (congrFun e 3)).symm
    | ⟨5, _⟩ => exact (congrArg Fin.val (congrFun e 4)).symm
    | ⟨6, _⟩ => exact (congrArg Fin.val (congrFun e 5)).symm
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl
    | ⟨5, _⟩ => rfl

theorem top_apply : top L (ix5 b h n r g) = (Finset.univ : Finset (Fin 128 × Fin 128)).fold max ⊥ fun k => L (ix7 b h n r g k.1 k.2) := by
  unfold top
  rw [Host.reduce_eq_fold]
  refine (Finset.fold_filter_eq_fold_of_fiber _ _ (fun k : Fin 128 × Fin 128 => ix7 b h n r g k.1 k.2)
    (fun _ _ e => Prod.ext (congrFun e 5) (congrFun e 6)) (fiber56 b h n g r) _ L).trans ?_
  pointwise
  rw [Consts.ofBits_neg_inf]

theorem total_apply : total P (ix5 b h n r g) = ∑ j : Fin 128, ∑ c : Fin 128, P (ix7 b h n r g j c) := by
  unfold total
  pointwise
  unfold Ideal.hostReduceAdd
  rw [Finset.sum_filter_eq_sum_of_fiber _ (fun k : Fin 128 × Fin 128 => ix7 b h n r g k.1 k.2)
    (fun _ _ e => Prod.ext (congrFun e 5) (congrFun e 6)) (fiber56 b h n g r) P, Fintype.sum_prod_type]
  exact zero_add _

theorem acc_apply : acc W VS (ix6 b h n r g d) = ∑ j : Fin 128, W (ix7 b h j n r g d) * (VS (ix3 b j h) * ((1 / 256 : ℝ) : EReal)) := by
  unfold acc
  rw [Host.reduceAdd_apply]
  pointwise
  unfold Ideal.hostReduceAdd
  rw [Finset.sum_filter_eq_sum_of_fiber _ (fun k : Fin 128 => ix7 b h k n r g d) (fun _ _ e => congrFun e 2) (fiber2 b h n g r d)]
  pointwise
  simp only [Consts.ofBits_2m8, zero_add]

/-- The reference's arrays read at coordinates. -/
abbrev cQ (b : Fin 4) (p : Fin 16384) (x : Fin 2048) : EReal := Q (ix3 b p x)
abbrev cQW (b : Fin 4) (n : Fin 128) (x : Fin 2048) : EReal := QW (ix4 b n (0 : Fin 1) x)
abbrev cK (b : Fin 4) (p : Fin 16384) (x : Fin 256) : EReal := K (ix3 b p x)
abbrev cS (b : Fin 4) (j : Fin 128) (h : Fin 2) : EReal := KS (ix3 b j h)
abbrev cVT (b : Fin 4) (j : Fin 128) (h : Fin 2) (d c : Fin 128) : EReal := VT (ix5 b j h d c)

/-- The scale of a product, divided by the cap: the root of the head size and the cap go into one real factor. -/
theorem scaled_eq (x w s : EReal) :
    Ideal.div (x * Ideal.div (w * s) (Ideal.sqrt ((128 : ℝ) : EReal))) ((50 : ℝ) : EReal)
      = x * (w * (((Real.sqrt 128)⁻¹ * (1 / 50) : ℝ) : EReal) * s) := by
  have h : Real.sqrt 128 ≠ 0 := (Real.sqrt_pos.mpr (by norm_num)).ne'
  rw [Ideal.sqrt_coe, if_neg (by norm_num), Ideal.div_coe h, Ideal.div_coe (by norm_num), one_div (Real.sqrt 128), EReal.coe_mul]
  simp only [mul_assoc, mul_comm, mul_left_comm]

/-- The score is the specification's. -/
theorem score_eq : score (prod Q K) (scale QW KS) (ix7 b h n r g j c) = Spec.score (cQ Q) (cQW QW) (cK K) (cS KS) b h n g r j c := by
  rw [score_apply, prod_apply, scale_apply, Consts.ofBits_128, Consts.ofBits_50, scaled_eq]
  unfold Spec.score Spec.dot
  congr 2
  exact Finset.sum_congr rfl fun d _ => mul_comm _ _

/-- The logit is the cap times the specification's causal score. -/
theorem logit_eq : logits (score (prod Q K) (scale QW KS)) (ix7 b h n r g j c)
    = ((50 : ℝ) : EReal) * Spec.cscore (cQ Q) (cQW QW) (cK K) (cS KS) b h n g r j c := by
  rw [logits_apply, score_eq]
  unfold Spec.cscore
  split_ifs
  · rfl
  · exact (EReal.coe_mul_bot_of_pos (by norm_num)).symm

/-- The maximum logit is a real above every logit of the query. -/
theorem top_real : ∃ m : ℝ, top (logits (score (prod Q K) (scale QW KS))) (ix5 b h n r g) = (m : EReal)
    ∧ ∀ j c, ((50 : ℝ) : EReal) * Spec.cscore (cQ Q) (cQW QW) (cK K) (cS KS) b h n g r j c ≤ (m : EReal) := by
  have hs : ∀ t : EReal, Softmax.Score t → Softmax.Score (((50 : ℝ) : EReal) * t) := by
    rintro t (rfl | ⟨y, rfl⟩)
    · exact .inl (EReal.coe_mul_bot_of_pos (by norm_num))
    · exact .inr ⟨50 * y, (EReal.coe_mul _ _).symm⟩
  obtain ⟨m, e, hm⟩ := Softmax.max_real (Finset.univ : Finset (Fin 128 × Fin 128))
    (fun k => ((50 : ℝ) : EReal) * Spec.cscore (cQ Q) (cQW QW) (cK K) (cS KS) b h n g r k.1 k.2)
    (fun k _ => hs _ (Spec.cscore_score _ _ _ _ b h n g r k.1 k.2)) (b := ⊥) (.inl rfl)
    (.inl ⟨(0, 0), Finset.mem_univ _, by
      have h0 := Spec.cscore_zero_ne (cQ Q) (cQW QW) (cK K) (cS KS) b h n g r
      obtain h1 | ⟨y, h1⟩ := Spec.cscore_score (cQ Q) (cQW QW) (cK K) (cS KS) b h n g r 0 0
      · exact absurd h1 h0
      · rw [h1, ← EReal.coe_mul]; exact EReal.coe_ne_bot _⟩)
  refine ⟨m, ?_, fun j c => hm (j, c) (Finset.mem_univ _)⟩
  rw [top_apply, ← e, max_eq_right bot_le]
  exact congrArg (fun f => Finset.fold max ⊥ f Finset.univ) (funext fun k => logit_eq Q QW K KS b h n g r k.1 k.2)

/-- The reference's result at an index is the specification's. -/
theorem final_apply : final Q QW K KS VT VS (ix3 b ⟨128 * n.val + r.val, by omega⟩ ⟨1024 * h.val + 128 * g.val + d.val, by omega⟩)
    = Spec.out (cQ Q) (cQW QW) (cK K) (cS KS) (cVT VT) (cS VS) b h n g r d := by
  obtain ⟨m, em, hm⟩ := top_real Q QW K KS b h n g r
  have hs := fun j c => Spec.cscore_score (cQ Q) (cQW QW) (cK K) (cS KS) b h n g r j c
  have hp : ∀ j c, probs Q QW K KS (ix7 b h n r g j c)
      = ((Softmax.wt (Spec.cscore (cQ Q) (cQW QW) (cK K) (cS KS) b h n g r j c) * Real.exp (-m) : ℝ) : EReal) := by
    intro j c
    unfold probs
    rw [prob_apply, em, logit_eq]
    exact Softmax.refProb_eq (hs j c) m
  have hc : ∀ j c, codes (probs Q QW K KS) (ix7 b h n r g j c)
      = ((Softmax.wt (Spec.cscore (cQ Q) (cQW QW) (cK K) (cS KS) b h n g r j c) * Real.exp (-m) * 256 : ℝ) : EReal) := by
    intro j c
    obtain ⟨h0, h1⟩ := Softmax.refProb_le (hs j c) (hm j c)
    rw [codes_apply, hp, Consts.ofBits_448, Consts.ofBits_256, Ideal.ofBits_zero_f32, ← EReal.coe_mul]
    exact Softmax.clip_eq h0 h1
  unfold final Spec.out
  rw [lay_apply, norm_apply, acc_apply, total_apply]
  simp only [weighted_apply, hc, hp]
  exact Softmax.ref_quotient Finset.univ _ (fun j c => cVT VT b j h d c) (fun j => cS VS b j h) m
    (Softmax.total_pos Finset.univ _ (fun j _ c => hs j c) (Finset.mem_univ 0) (Spec.cscore_zero_ne _ _ _ _ b h n g r))

end Cert.ReferenceIdeal.Ref
-- ==== Proof.RefRun.lean ====
/-
  The reference's run: its widening kernel leaves the three fp8 arguments as they were, so the result buffer holds the
  function of Proof/RefHost.lean of the six arguments.
-/
module

public import proofs.«01_k».proof.Proof.RefValue
public import Idealize.ShloMosaic.Lib.Pipeline.ValueKit
public import Idealize.ShloMosaic.Lib.Pipeline.ValueKit.Tiles
public import Idealize.ShloMosaic.Lib.Pipeline.Covers

@[expose] public section
noncomputable section

namespace Cert.ReferenceIdeal.Ref
open Cert.ReferenceIdeal Cert.ReferenceIdeal.Gen
open Idealize.ShloMosaic Idealize.ShloMosaic.TcCoe Idealize.ShloMosaic.Pipeline Idealize.SL.Sem

variable (m : (ℓ : Loc nD τ sig) → Buf (Elt Ideal) ℓ)
variable (c : Dev nD)

/-- Every window's block index at the one point. -/
theorem idx : ∀ t : Fin cfg0.N, win0_0.index t = ![0, 0, 0] ∧ win0_1.index t = ![0, 0, 0] ∧ win0_2.index t = ![0, 0, 0, 0, 0] :=
  (by decide +kernel : ∀ t : Fin grid0.N, _)

/-- The blocks at the one point are the argument arrays. -/
theorem iblk0 : iblk m c 0 t0_0 = m ((c : Thread nD τ).loc main_arg0) := by
  blk_ext! [iblk, V, idx t0_0]
theorem iblk1 : iblk m c 1 t0_0 = m ((c : Thread nD τ).loc main_arg2) := by
  blk_ext! [iblk, V, idx t0_0]
theorem iblk2 : iblk m c 2 t0_0 = m ((c : Thread nD τ).loc main_arg4) := by
  blk_ext! [iblk, V, idx t0_0]

/-- Each widened array holds the argument it widens. -/
theorem wide_q : (dats m 0 c).arrAt 3 cfg0.N = (m ((c.tc : Thread nD τ).loc main_arg0) : S4x16384x2048.Idx → EReal) := by
  refine (dats m 0 c).arrAt_eq_of_after_last 3 t0_0 (by decide +kernel) _ fun j => ?_
  blk_simp
  rw [after0_3]
  unfold out0_3
  frame_out
  rw [iblk0]
  rfl
theorem wide_k : (dats m 0 c).arrAt 4 cfg0.N = (m ((c.tc : Thread nD τ).loc main_arg2) : S4x16384x256.Idx → EReal) := by
  refine (dats m 0 c).arrAt_eq_of_after_last 4 t0_0 (by decide +kernel) _ fun j => ?_
  blk_simp
  rw [after0_4]
  unfold out0_4
  frame_out
  rw [iblk1]
  rfl
theorem wide_vt : (dats m 0 c).arrAt 5 cfg0.N = (m ((c.tc : Thread nD τ).loc main_arg4) : S4x128x2x128x128.Idx → EReal) := by
  refine (dats m 0 c).arrAt_eq_of_after_last 5 t0_0 (by decide +kernel) _ fun j => ?_
  blk_simp
  rw [after0_5]
  unfold out0_5
  frame_out
  rw [iblk2]
  rfl

/-- The result buffer after the run, as the function of the arguments. -/
theorem tail_eq : Pipeline.afterTail₀ cfgs (dats m) 0 (V0 m) [hostOps1, hostOps1_1, hostOps1_2, hostOps1_3, hostOps1_4] c main_v53
    = final (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Pipeline.afterTail₀
  have hi : Function.Injective (Pipeline.arrRef spec0) := by decide
  refine (read_final _).trans ?_
  have e0 := (Pipeline.withArrays_arr spec0 hi c (V0 m c) (fun w => (dats m 0 c).arrAt w cfg0.N) 3).trans (wide_q m c)
  have e1 := (Pipeline.withArrays_arr spec0 hi c (V0 m c) (fun w => (dats m 0 c).arrAt w cfg0.N) 4).trans (wide_k m c)
  have e2 := (Pipeline.withArrays_arr spec0 hi c (V0 m c) (fun w => (dats m 0 c).arrAt w cfg0.N) 5).trans (wide_vt m c)
  have a1 := (Pipeline.withArrays_of_ne spec0 c (V0 m c) (fun w => (dats m 0 c).arrAt w cfg0.N) main_arg1 (by exact (by decide : ∀ w, Pipeline.arrRef spec0 w ≠ main_arg1))).trans (V_main_arg1 m c)
  have a3 := (Pipeline.withArrays_of_ne spec0 c (V0 m c) (fun w => (dats m 0 c).arrAt w cfg0.N) main_arg3 (by exact (by decide : ∀ w, Pipeline.arrRef spec0 w ≠ main_arg3))).trans (V_main_arg3 m c)
  have a5 := (Pipeline.withArrays_of_ne spec0 c (V0 m c) (fun w => (dats m 0 c).arrAt w cfg0.N) main_arg5 (by exact (by decide : ∀ w, Pipeline.arrRef spec0 w ≠ main_arg5))).trans (V_main_arg5 m c)
  have f : ∀ {Q Q' QW QW' K K' KS KS' VT VT' VS VS'}, Q = Q' → QW = QW' → K = K' → KS = KS' → VT = VT' → VS = VS' →
      final Q QW K KS VT VS = final Q' QW' K' KS' VT' VS' := by
    rintro _ _ _ _ _ _ _ _ _ _ _ _ rfl rfl rfl rfl rfl rfl; rfl
  exact f e0 a1 e1 a3 e2 a5

/-- The reference's run: the result buffer ends at that function of the arguments, and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v53)
        = final (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.1 c).2 main_v53 (Pipeline.mem_restRefs_of main_v53 (by decide) (by decide))).trans (tail_eq m c), h.2.1 c⟩)
    (θ_run_and (run_main m ρ) (frame m ρ))

end Cert.ReferenceIdeal.Ref
-- ==== Proof.Claims.lean ====
/-
  The two claims with content: the rewritten constants are what the kernel wrote, and the kernel's result equals the
  reference's at the extended reals.
-/
module

public import proofs.«01_k».proof.Defs
public import proofs.«01_k».proof.Proof.KernelValue
public import proofs.«01_k».proof.Proof.RefRun
public import proofs.«01_k».proof.Proof.Gen.KernelIdeal.Value

@[expose] public section
noncomputable section

namespace Cert.Proof
open Idealize.ShloMosaic Idealize.ShloMosaic.TcCoe Idealize.SL.Sem

/-- Each named constant names, at the extended reals, the value the kernel's constant stands for, and at bits the constant
    itself. -/
theorem preserves : Cert.preserves_Kernel_KernelIdeal :=
  ⟨IdealRules.named_const.statement Cert.KernelIdeal.κ "sm_scale_over_cap" .f32 0x3AE7B46A#32 (((Real.sqrt 128)⁻¹ * (1 / 50) : ℝ) : EReal) rfl,
    IdealRules.named_const.statement Cert.KernelIdeal.κ "neg_inf" .f32 0xF149F2CA#32 ⊥ rfl,
    IdealRules.named_const.statement Cert.KernelIdeal.κ "cap_log2e" .f32 0x429044FE#32 ((50 * (Real.log 2)⁻¹ : ℝ) : EReal) rfl⟩

/-- The reference's function of the kernel's arguments is the kernel's result. -/
theorem value_eq (m : (ℓ : Loc Cert.KernelIdeal.nD Cert.KernelIdeal.τ Cert.KernelIdeal.sig) → Buf (Elt Ideal) ℓ) (c : Dev Cert.KernelIdeal.nD) :
    Cert.ReferenceIdeal.Ref.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelIdeal.Run.result m c := by
  funext I
  have i0 : (I 0).val < 4 := (I 0).isLt
  have i1 : (I 1).val < 16384 := (I 1).isLt
  have i2 : (I 2).val < 2048 := (I 2).isLt
  have hI : I = ix3 (⟨(I 0).val, i0⟩ : Fin 4) (⟨128 * ((I 1).val / 128) + (I 1).val % 128, by omega⟩ : Fin 16384)
      (⟨1024 * ((I 2).val / 1024) + 128 * ((I 2).val % 1024 / 128) + (I 2).val % 128, by omega⟩ : Fin 2048) := by
    funext a
    apply Fin.ext
    match a with
    | ⟨0, _⟩ => rfl
    | ⟨1, _⟩ => show (I 1).val = 128 * ((I 1).val / 128) + (I 1).val % 128; omega
    | ⟨2, _⟩ => show (I 2).val = 1024 * ((I 2).val / 1024) + 128 * ((I 2).val % 1024 / 128) + (I 2).val % 128; omega
  have h := Cert.ReferenceIdeal.Ref.final_apply
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    ⟨(I 0).val, i0⟩ ⟨(I 2).val / 1024, by omega⟩ ⟨(I 1).val / 128, by omega⟩ ⟨(I 2).val % 1024 / 128, by omega⟩
    ⟨(I 1).val % 128, by omega⟩ ⟨(I 2).val % 128, by omega⟩
  exact (congrArg _ hI).trans (h.trans rfl)

/-- From memories that agree on the six arguments, kernel and reference both run and end with equal results. -/
theorem algebraic : Cert.algebraic_KernelIdeal_ReferenceIdeal := by
  intro m g m' g' _ ha
  refine ⟨fun c => Cert.KernelIdeal.Run.result m c, ?_, ?_⟩
  · exact (θ_run _ _ _).mono (fun _ h c => ⟨(h c).1.trans (Cert.KernelIdeal.Run.array_eq m c), (h c).2⟩)
      (Cert.KernelIdeal.Value.run_blocks m g)
  · refine (θ_run _ _ _).mono (fun _ h c => ⟨(h c).1.trans ?_, (h c).2⟩) (Cert.ReferenceIdeal.Ref.run m' g')
    obtain ⟨a0, a1, a2, a3, a4, a5⟩ := ha c
    rw [a0, a1, a2, a3, a4, a5]
    exact value_eq m c

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The certificate's claims: the three programs run, leave their arguments as they were and end with every semaphore at
    zero; the idealized kernel is the kernel's sanctioned idealization; its result is the reference's. -/
theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Gen.frame m ρ, preserves, algebraic⟩

end Cert.Proof

end
